-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S16x256x512 : Shape := ⟨3, ![16, 256, 512]⟩
abbrev S16 : Shape := ⟨1, ![16]⟩
abbrev S_ : Shape := ⟨0, ![]⟩
abbrev S256x512 : Shape := ⟨2, ![256, 512]⟩
abbrev S1x256x512 : Shape := ⟨3, ![1, 256, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .bf16⟩
  | .hbm, ⟨1, _⟩ => ⟨S4096x8192, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S16x256x512, .bf16⟩
  | .local _ .vmem, ⟨5, _⟩ => ⟨S16x256x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 : Nat :=
  let c0_i32_14 : BitVec 32 := 0#32
  let c0_i32_12 : BitVec 32 := 0#32
  let c1_i32_13 : BitVec 32 := 1#32
  let v34 : BitVec 32 := Scalar.muli c0_i32_12 c1_i32_13
  let v35 : BitVec 32 := Scalar.addi c0_i32_14 v34
  v35.toNat
def k0_dev2 : Nat :=
  let c0_i32_18 : BitVec 32 := 0#32
  let c1_i32_16 : BitVec 32 := 1#32
  let c1_i32_17 : BitVec 32 := 1#32
  let v36 : BitVec 32 := Scalar.muli c1_i32_16 c1_i32_17
  let v37 : BitVec 32 := Scalar.addi c0_i32_18 v36
  v37.toNat
def k0_dev3 : Nat :=
  let c0_i32_21 : BitVec 32 := 0#32
  let c2_i32 : BitVec 32 := 2#32
  let c1_i32_20 : BitVec 32 := 1#32
  let v38 : BitVec 32 := Scalar.muli c2_i32 c1_i32_20
  let v39 : BitVec 32 := Scalar.addi c0_i32_21 v38
  v39.toNat
def k0_dev4 : Nat :=
  let c0_i32_24 : BitVec 32 := 0#32
  let c3_i32 : BitVec 32 := 3#32
  let c1_i32_23 : BitVec 32 := 1#32
  let v40 : BitVec 32 := Scalar.muli c3_i32 c1_i32_23
  let v41 : BitVec 32 := Scalar.addi c0_i32_24 v40
  v41.toNat
def k0_dev5 : Nat :=
  let c0_i32_27 : BitVec 32 := 0#32
  let c4_i32 : BitVec 32 := 4#32
  let c1_i32_26 : BitVec 32 := 1#32
  let v42 : BitVec 32 := Scalar.muli c4_i32 c1_i32_26
  let v43 : BitVec 32 := Scalar.addi c0_i32_27 v42
  v43.toNat
def k0_dev6 : Nat :=
  let c0_i32_30 : BitVec 32 := 0#32
  let c5_i32 : BitVec 32 := 5#32
  let c1_i32_29 : BitVec 32 := 1#32
  let v44 : BitVec 32 := Scalar.muli c5_i32 c1_i32_29
  let v45 : BitVec 32 := Scalar.addi c0_i32_30 v44
  v45.toNat
def k0_dev7 : Nat :=
  let c0_i32_33 : BitVec 32 := 0#32
  let c6_i32 : BitVec 32 := 6#32
  let c1_i32_32 : BitVec 32 := 1#32
  let v46 : BitVec 32 := Scalar.muli c6_i32 c1_i32_32
  let v47 : BitVec 32 := Scalar.addi c0_i32_33 v46
  v47.toNat
def k0_dev8 : Nat :=
  let c0_i32_36 : BitVec 32 := 0#32
  let c7_i32 : BitVec 32 := 7#32
  let c1_i32_35 : BitVec 32 := 1#32
  let v48 : BitVec 32 := Scalar.muli c7_i32 c1_i32_35
  let v49 : BitVec 32 := Scalar.addi c0_i32_36 v48
  v49.toNat
def k0_dev9 : Nat :=
  let c0_i32_39 : BitVec 32 := 0#32
  let c8_i32 : BitVec 32 := 8#32
  let c1_i32_38 : BitVec 32 := 1#32
  let v50 : BitVec 32 := Scalar.muli c8_i32 c1_i32_38
  let v51 : BitVec 32 := Scalar.addi c0_i32_39 v50
  v51.toNat
def k0_dev10 : Nat :=
  let c0_i32_42 : BitVec 32 := 0#32
  let c9_i32 : BitVec 32 := 9#32
  let c1_i32_41 : BitVec 32 := 1#32
  let v52 : BitVec 32 := Scalar.muli c9_i32 c1_i32_41
  let v53 : BitVec 32 := Scalar.addi c0_i32_42 v52
  v53.toNat
def k0_dev11 : Nat :=
  let c0_i32_45 : BitVec 32 := 0#32
  let c10_i32 : BitVec 32 := 10#32
  let c1_i32_44 : BitVec 32 := 1#32
  let v54 : BitVec 32 := Scalar.muli c10_i32 c1_i32_44
  let v55 : BitVec 32 := Scalar.addi c0_i32_45 v54
  v55.toNat
def k0_dev12 : Nat :=
  let c0_i32_48 : BitVec 32 := 0#32
  let c11_i32 : BitVec 32 := 11#32
  let c1_i32_47 : BitVec 32 := 1#32
  let v56 : BitVec 32 := Scalar.muli c11_i32 c1_i32_47
  let v57 : BitVec 32 := Scalar.addi c0_i32_48 v56
  v57.toNat
def k0_dev13 : Nat :=
  let c0_i32_51 : BitVec 32 := 0#32
  let c12_i32 : BitVec 32 := 12#32
  let c1_i32_50 : BitVec 32 := 1#32
  let v58 : BitVec 32 := Scalar.muli c12_i32 c1_i32_50
  let v59 : BitVec 32 := Scalar.addi c0_i32_51 v58
  v59.toNat
def k0_dev14 : Nat :=
  let c0_i32_54 : BitVec 32 := 0#32
  let c13_i32 : BitVec 32 := 13#32
  let c1_i32_53 : BitVec 32 := 1#32
  let v60 : BitVec 32 := Scalar.muli c13_i32 c1_i32_53
  let v61 : BitVec 32 := Scalar.addi c0_i32_54 v60
  v61.toNat
def k0_dev15 : Nat :=
  let c0_i32_57 : BitVec 32 := 0#32
  let c14_i32 : BitVec 32 := 14#32
  let c1_i32_56 : BitVec 32 := 1#32
  let v62 : BitVec 32 := Scalar.muli c14_i32 c1_i32_56
  let v63 : BitVec 32 := Scalar.addi c0_i32_57 v62
  v63.toNat
def k0_dev16 : Nat :=
  let c0_i32_61 : BitVec 32 := 0#32
  let c15_i32_59 : BitVec 32 := 15#32
  let c1_i32_60 : BitVec 32 := 1#32
  let v64 : BitVec 32 := Scalar.muli c15_i32_59 c1_i32_60
  let v65 : BitVec 32 := Scalar.addi c0_i32_61 v64
  v65.toNat
def k0_cond2 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v24 : BitVec 1 := Scalar.cmpi .eq arg0 v2
  let v25 : BitVec 32 := Scalar.extui v24
  let c0_i32_8 : BitVec 32 := 0#32
  let v26 : BitVec 1 := Scalar.cmpi .ne v25 c0_i32_8
  v26

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v33 : BitVec 32 := Scalar.muli v2 c256_i32
  let v34 : Index := Scalar.indexCast v33
  let c0_11 : Index := 0#32
  ![v34.toNat, 0]
def k0_cond3 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : BitVec 1 := Scalar.cmpi .ne arg0 v2
  let v28 : BitVec 32 := Scalar.extui v27
  let c0_i32_9 : BitVec 32 := 0#32
  let v29 : BitVec 1 := Scalar.cmpi .ne v28 c0_i32_9
  v29

def k0_off2 (i : grid0.Coords) : Fin 3 → Nat :=
  let arg0 : BitVec 32 := BitVec.ofNat 32 (i 0).val
  let v34 : Index := Scalar.indexCast arg0
  let c0_11 : Index := 0#32
  let c0_12 : Index := 0#32
  ![v34.toNat, 0, 0]
def k0_off3 (i : grid0.Coords) : Fin 1 → Nat :=
  let arg0 : BitVec 32 := BitVec.ofNat 32 (i 0).val
  ![arg0.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_15 : BitVec 32 := 0#32
  let c0_i32_16 : BitVec 32 := 0#32
  ![v2.toNat, 0, 0]
def k0_off6 (i : grid0.Coords) : Fin 3 → Nat :=
  let arg0 : BitVec 32 := BitVec.ofNat 32 (i 0).val
  let c0_i32_17 : BitVec 32 := 0#32
  let c0_i32_18 : BitVec 32 := 0#32
  ![arg0.toNat, 0, 0]
def k0_dev17 (i : grid0.Coords) : Nat :=
  let c0_i32_14 : BitVec 32 := 0#32
  let arg0 : BitVec 32 := BitVec.ofNat 32 (i 0).val
  let c1_i32_13 : BitVec 32 := 1#32
  let v38 : BitVec 32 := Scalar.muli arg0 c1_i32_13
  let v39 : BitVec 32 := Scalar.addi c0_i32_14 v38
  v39.toNat
def k0_cond4 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_10 : BitVec 32 := 0#32
  let v32 : BitVec 1 := Scalar.cmpi .ne v31 c0_i32_10
  v32

def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_11 : BitVec 32 := 0#32
  let v33 : BitVec 1 := Scalar.cmpi .ne v2 c0_i32_11
  let v34 : BitVec 32 := Scalar.extui v33
  let c0_i32_12 : BitVec 32 := 0#32
  let v35 : BitVec 1 := Scalar.cmpi .ne v34 c0_i32_12
  v35

def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v36 : BitVec 1 := Scalar.cmpi .ne v2 c1_i32_13
  let v37 : BitVec 32 := Scalar.extui v36
  let c0_i32_14 : BitVec 32 := 0#32
  let v38 : BitVec 1 := Scalar.cmpi .ne v37 c0_i32_14
  v38

def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v39 : BitVec 1 := Scalar.cmpi .ne v2 c2_i32
  let v40 : BitVec 32 := Scalar.extui v39
  let c0_i32_15 : BitVec 32 := 0#32
  let v41 : BitVec 1 := Scalar.cmpi .ne v40 c0_i32_15
  v41

def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v42 : BitVec 1 := Scalar.cmpi .ne v2 c3_i32
  let v43 : BitVec 32 := Scalar.extui v42
  let c0_i32_16 : BitVec 32 := 0#32
  let v44 : BitVec 1 := Scalar.cmpi .ne v43 c0_i32_16
  v44

def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v45 : BitVec 1 := Scalar.cmpi .ne v2 c4_i32
  let v46 : BitVec 32 := Scalar.extui v45
  let c0_i32_17 : BitVec 32 := 0#32
  let v47 : BitVec 1 := Scalar.cmpi .ne v46 c0_i32_17
  v47

def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v48 : BitVec 1 := Scalar.cmpi .ne v2 c5_i32
  let v49 : BitVec 32 := Scalar.extui v48
  let c0_i32_18 : BitVec 32 := 0#32
  let v50 : BitVec 1 := Scalar.cmpi .ne v49 c0_i32_18
  v50

def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v51 : BitVec 1 := Scalar.cmpi .ne v2 c6_i32
  let v52 : BitVec 32 := Scalar.extui v51
  let c0_i32_19 : BitVec 32 := 0#32
  let v53 : BitVec 1 := Scalar.cmpi .ne v52 c0_i32_19
  v53

def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v54 : BitVec 1 := Scalar.cmpi .ne v2 c7_i32
  let v55 : BitVec 32 := Scalar.extui v54
  let c0_i32_20 : BitVec 32 := 0#32
  let v56 : BitVec 1 := Scalar.cmpi .ne v55 c0_i32_20
  v56

def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v57 : BitVec 1 := Scalar.cmpi .ne v2 c8_i32
  let v58 : BitVec 32 := Scalar.extui v57
  let c0_i32_21 : BitVec 32 := 0#32
  let v59 : BitVec 1 := Scalar.cmpi .ne v58 c0_i32_21
  v59

def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v60 : BitVec 1 := Scalar.cmpi .ne v2 c9_i32
  let v61 : BitVec 32 := Scalar.extui v60
  let c0_i32_22 : BitVec 32 := 0#32
  let v62 : BitVec 1 := Scalar.cmpi .ne v61 c0_i32_22
  v62

def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v63 : BitVec 1 := Scalar.cmpi .ne v2 c10_i32
  let v64 : BitVec 32 := Scalar.extui v63
  let c0_i32_23 : BitVec 32 := 0#32
  let v65 : BitVec 1 := Scalar.cmpi .ne v64 c0_i32_23
  v65

def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v66 : BitVec 1 := Scalar.cmpi .ne v2 c11_i32
  let v67 : BitVec 32 := Scalar.extui v66
  let c0_i32_24 : BitVec 32 := 0#32
  let v68 : BitVec 1 := Scalar.cmpi .ne v67 c0_i32_24
  v68

def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v69 : BitVec 1 := Scalar.cmpi .ne v2 c12_i32
  let v70 : BitVec 32 := Scalar.extui v69
  let c0_i32_25 : BitVec 32 := 0#32
  let v71 : BitVec 1 := Scalar.cmpi .ne v70 c0_i32_25
  v71

def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v72 : BitVec 1 := Scalar.cmpi .ne v2 c13_i32
  let v73 : BitVec 32 := Scalar.extui v72
  let c0_i32_26 : BitVec 32 := 0#32
  let v74 : BitVec 1 := Scalar.cmpi .ne v73 c0_i32_26
  v74

def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v75 : BitVec 1 := Scalar.cmpi .ne v2 c14_i32
  let v76 : BitVec 32 := Scalar.extui v75
  let c0_i32_27 : BitVec 32 := 0#32
  let v77 : BitVec 1 := Scalar.cmpi .ne v76 c0_i32_27
  v77

def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_28 : BitVec 32 := 15#32
  let v78 : BitVec 1 := Scalar.cmpi .ne v2 c15_i32_28
  let v79 : BitVec 32 := Scalar.extui v78
  let c0_i32_29 : BitVec 32 := 0#32
  let v80 : BitVec 1 := Scalar.cmpi .ne v79 c0_i32_29
  v80

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Common.lean ====
/-
The exchange between the sixteen devices as a schedule of semaphore rounds: the names of its cells and
buffers, what each cell's one round hands over, the levels the waits are ordered by, and what a device owes.

Every device `c` has one barrier cell, sixteen send cells and sixteen receive cells. Device `d` raises the
barrier cell of `c` once, and with that hands over the slot of its own landing buffer that `c` is going to
write: the slot numbered `c`. At grid point `j ≠ c` device `c` writes its block of columns `j` into slot `j` of
its sending buffer and copies it into slot `c` of device `j`'s landing buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

/-! ## Ghost state: the pipeline's copy and the exchange's -/

/-- The exchange's round ghost state: its duties are named by devices. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Semaphores and slots -/

theorem one_inb (s : Dev nD) : ∀ a, (![s.val] : Fin 1 → ℕ) a + S1.size a ≤ S16.size a := by revert s; decide
theorem slot_inb (s : Dev nD) : ∀ a, (![s.val, 0, 0] : Fin 3 → ℕ) a + S1x256x512.size a ≤ S16x256x512.size a := by revert s; decide
theorem row_inb (s : Dev nD) : ∀ a, (![256 * s.val, 0] : Fin 2 → ℕ) a + S256x512.size a ≤ S4096x512.size a := by revert s; decide

/-- The barrier semaphore, the `j`-th send semaphore and the `s`-th receive semaphore. -/
abbrev barS : Sem sig := (SemArray.scalar (sig.barrier 0 rfl) : Sems sig S_).sem
abbrev sendS (j : Dev nD) : DmaSem sig := ((cc0_scratch2.slice (Rect.unit (s := S16) ![j.val] S1.size (one_inb j))).squeeze S_ squeezes_S1_S_).sem
abbrev recvS (s : Dev nD) : DmaSem sig := ((cc0_scratch3.slice (Rect.unit (s := S16) ![s.val] S1.size (one_inb s))).squeeze S_ squeezes_S1_S_).sem

/-- The rectangle of slot `s` of a sixteen-slot buffer, and of row block `s` of the result. -/
abbrev slotRect (s : Dev nD) : Rect S16x256x512 := Rect.unit (s := S16x256x512) ![s.val, 0, 0] S1x256x512.size (slot_inb s)
abbrev rowRect (s : Dev nD) : Rect S4096x512 := Rect.unit (s := S4096x512) ![256 * s.val, 0] S256x512.size (row_inb s)

abbrev sBuf : Memref sig .tc .vmem S16x256x512 .bf16 := Memref.whole cc0_scratch0
abbrev rBuf : Memref sig .tc .vmem S16x256x512 .bf16 := Memref.whole cc0_scratch1
/-- Slot `s` of a sixteen-slot buffer, as the kernel names it: the slice with its unit axis dropped. -/
abbrev slotM (b : Memref sig .tc .vmem S16x256x512 .bf16) (s : Dev nD) : Memref sig .tc .vmem S256x512 .bf16 :=
  (b.slice (slotRect s) (fun _ => rfl)).squeeze S256x512 squeezes_S1x256x512_S256x512

/-- What one copy credits. -/
abbrev NB : ℕ := (slotM rBuf 0).view.dmaCredit
theorem NB_pos : 0 < NB := View.dmaCredit_pos _ (by decide)
theorem credit_s (s : Dev nD) : (slotM sBuf s).view.dmaCredit = NB := rfl
theorem credit_r (s : Dev nD) : (slotM rBuf s).view.dmaCredit = NB := rfl

/-! ## Which cell a semaphore is -/

/-- The part a semaphore plays in the exchange. -/
inductive Role where
  | bar
  | send (j : Dev nD)
  | recv (s : Dev nD)
  | other

/-- The part each semaphore plays. -/
def role : SemLoc sig → Role
  | .reg r => if r = barS then .bar else .other
  | .dma q => if h : 4 ≤ q.val ∧ q.val < 20 then .send ⟨q.val - 4, by show q.val - 4 < 16; omega⟩
      else if h : 20 ≤ q.val ∧ q.val < 36 then .recv ⟨q.val - 20, by show q.val - 20 < 16; omega⟩ else .other

theorem role_bar : role (.reg barS) = .bar := by dsimp only [role]; rw [if_pos rfl]
theorem sendS_val (j : Dev nD) : (sendS j).val = 4 + j.val := by revert j; decide
theorem recvS_val (s : Dev nD) : (recvS s).val = 20 + s.val := by revert s; decide
theorem role_send (j : Dev nD) : role (.dma (sendS j)) = .send j := by
  have h := sendS_val j; have hj : j.val < 16 := j.isLt
  dsimp only [role]; rw [dif_pos (by omega)]
  exact congrArg Role.send (Fin.ext (by simp only [h]; omega))
theorem role_recv (s : Dev nD) : role (.dma (recvS s)) = .recv s := by
  have h := recvS_val s; have hj : s.val < 16 := s.isLt
  dsimp only [role]; rw [dif_neg (by omega), dif_pos (by omega)]
  exact congrArg Role.recv (Fin.ext (by simp only [h]; omega))
/-- The pipeline's own staging semaphores play no part. -/
theorem role_stage (q : DmaSem sig) (h : q.val < 4) : role (.dma q) = .other := by
  dsimp only [role]; rw [dif_neg (by omega), dif_neg (by omega)]

/-- The kinds of cell a device has: barrier, sends, receives. -/
abbrev CI : Type := Unit ⊕ (Dev nD ⊕ Dev nD)
abbrev csem : CI → SemLoc sig
  | .inl _ => .reg barS
  | .inr (.inl j) => .dma (sendS j)
  | .inr (.inr s) => .dma (recvS s)
abbrev kcell (ck : Dev nD × CI) : GSem nD τ sig := ((ck.1 : Thread nD τ), csem ck.2)
abbrev barCell (c : Dev nD) : GSem nD τ sig := ((c : Thread nD τ), .reg barS)
abbrev sendCell (c j : Dev nD) : GSem nD τ sig := ((c : Thread nD τ), .dma (sendS j))
abbrev recvCell (c s : Dev nD) : GSem nD τ sig := ((c : Thread nD τ), .dma (recvS s))

theorem sendS_inj {i j : Dev nD} (h : sendS i = sendS j) : i = j := by
  have := congrArg Fin.val h; rw [sendS_val, sendS_val] at this; exact Fin.ext (by omega)
theorem recvS_inj {i j : Dev nD} (h : recvS i = recvS j) : i = j := by
  have := congrArg Fin.val h; rw [recvS_val, recvS_val] at this; exact Fin.ext (by omega)
theorem recvCell_inj {c c' s s' : Dev nD} (h : recvCell c s = recvCell c' s') : c = c' ∧ s = s' :=
  ⟨congrArg (fun g : GSem nD τ sig => g.1.1) h, recvS_inj (SemLoc.dma.inj (congrArg (fun g : GSem nD τ sig => g.2) h))⟩
theorem barCell_inj {c c' : Dev nD} (h : barCell c = barCell c') : c = c' := congrArg (fun g : GSem nD τ sig => g.1.1) h

theorem csem_injective : Function.Injective csem := by
  have key : ∀ a b : CI, csem a = csem b → role (csem a) = role (csem b) := fun a b h => congrArg role h
  rintro (⟨⟩ | a | a) (⟨⟩ | b | b) h
  · rfl
  · exact absurd h (fun h => by cases h)
  · exact absurd h (fun h => by cases h)
  · exact absurd h (fun h => by cases h)
  · rw [sendS_inj (SemLoc.dma.inj h)]
  · have := congrArg role h; rw [role_send, role_recv] at this; cases this
  · exact absurd h (fun h => by cases h)
  · have := congrArg role h; rw [role_send, role_recv] at this; cases this
  · rw [recvS_inj (SemLoc.dma.inj h)]
theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-! ## Contents -/

variable (m : (ℓ : Loc nD τ sig) → Buf (Elt F) ℓ)

/-- Device `c`'s rows of `x`, and block `j` of the columns of its copy of `w`, as the pipeline stages them. -/
def xb (c : Dev nD) : Vec F S256x4096 .bf16 := iblk m c 0 t0_0
def wb (c j : Dev nD) : Vec F S4096x512 .bf16 := iblk m c 1 (Fin.cast N_0.symm j)

/-- What device `s` sends to device `c`: the activations of its rows at `c`'s columns, rounded to `bf16`. -/
def sent (c s : Dev nD) : Vec F S256x512 .bf16 := fun x => k0_pay2 (xb m s) (wb m s c) (Shape.reshapeEquiv (squeezes_S1x256x512_S256x512).numel_eq x)

/-- Row block `s` of device `c`'s result: its own activations as computed, every other device's as received. -/
def outBlk (c s : Dev nD) : Vec F S256x512 .f32 :=
  if s = c then k0_pay1 (xb m c) (wb m c c) else extf .f32 (sent m c s) bitsLt_bf16_f32

/-- Row block `s` of `X` is the result's on device `c`. -/
def RowOK (c s : Dev nD) (X : Vec F S4096x512 .f32) : Prop := ∀ x, X ((rowRect s).emb x) = outBlk m c s x

/-! ## Slots held -/

/-- Slot `s` of device `c`'s landing buffer, of its sending buffer, at any contents. -/
def rSlot (c s : Dev nD) : sProp 𝕄 := iprop(∃ X, owns (c : Thread nD τ) (slotM rBuf s) fullShare X)
def sSlot (c s : Dev nD) : sProp 𝕄 := iprop(∃ X, owns (c : Thread nD τ) (slotM sBuf s) fullShare X)
/-- Slot `s` of device `c`'s landing buffer holding what device `s` sends. -/
def rGot (c s : Dev nD) : sProp 𝕄 := owns (c : Thread nD τ) (slotM rBuf s) fullShare (sent m c s)

omit [FloatOps F] in
instance rSlot_storable (c s : Dev nD) : BI.Storable (upEmb : UEmb _ 𝕄) (rSlot (F := F) c s) := by unfold rSlot; infer_instance
omit [FloatOps F] in
instance sSlot_storable (c s : Dev nD) : BI.Storable (upEmb : UEmb _ 𝕄) (sSlot (F := F) c s) := by unfold sSlot; infer_instance
instance rGot_storable (c s : Dev nD) : BI.Storable (upEmb : UEmb _ 𝕄) (rGot m c s) := by unfold rGot; infer_instance

/-! ## The schedule -/

/-- The duties of a cell of device `c` in its one round: on the barrier cell one for every device; on a send or
    receive cell one, and none on the cells that would serve a device's copy to itself. -/
def dutiesOf (c : Dev nD) : Role → Finset (Dev nD)
  | .bar => Finset.univ
  | .send j => if j = c then ∅ else {0}
  | .recv s => if s = c then ∅ else {0}
  | .other => ∅

/-- What a duty's units hand to the cell's owner `c`: the slot of device `d`'s landing buffer that `c` writes; its own
    slot of the sending buffer back; the slot of its landing buffer with what was sent. -/
def payOf (c : Dev nD) (d : Dev nD) : Role → sProp 𝕄
  | .bar => rSlot d c
  | .send j => sSlot c j
  | .recv s => rGot m c s
  | .other => iprop(emp)

def amtOf : Role → ℕ
  | .bar => 1
  | _ => NB

/-- The exchange's schedule: one round. -/
def sched : Rounds.Schedule (GSem nD τ sig) (Dev nD) 𝕄 where
  duties g r := if r = 0 ∧ g.1.2 = .tc then dutiesOf g.1.1 (role g.2) else ∅
  unitless _ := False
  amount g _ _ := amtOf (role g.2)
  payload g _ d := payOf m g.1.1 d (role g.2)
  amount_pos g _ _ _ := by
    show 0 < amtOf (role g.2)
    cases role g.2
    · exact Nat.one_pos
    all_goals exact NB_pos

instance sched_payload_storable (g : GSem nD τ sig) (r : ℕ) (d : Dev nD) :
    BI.Storable (upEmb : UEmb _ 𝕄) ((sched m).payload g r d) := by
  show BI.Storable upEmb (payOf m g.1.1 d (role g.2))
  cases role g.2 <;> (unfold payOf; infer_instance)

section Tables
variable (c j s d : Dev nD)

theorem duties_bar : (sched m).duties (barCell c) 0 = Finset.univ := by
  dsimp only [sched]; rw [if_pos ⟨rfl, rfl⟩, role_bar]; rfl
theorem duties_send (h : j ≠ c) : (sched m).duties (sendCell c j) 0 = {0} := by
  dsimp only [sched]; rw [if_pos ⟨rfl, rfl⟩, role_send]; exact if_neg h
theorem duties_recv (h : s ≠ c) : (sched m).duties (recvCell c s) 0 = {0} := by
  dsimp only [sched]; rw [if_pos ⟨rfl, rfl⟩, role_recv]; exact if_neg h
theorem duties_later (g : GSem nD τ sig) : ∀ r, 1 ≤ r → (sched m).duties g r = ∅ :=
  fun r hr => by dsimp only [sched]; rw [if_neg fun h => by omega]
theorem duties_send_self : ∀ r, 0 ≤ r → (sched m).duties (sendCell c c) r = ∅ := fun r _ => by
  dsimp only [sched]; rw [role_send]; split
  · exact if_pos rfl
  · rfl
theorem duties_recv_self : ∀ r, 0 ≤ r → (sched m).duties (recvCell c c) r = ∅ := fun r _ => by
  dsimp only [sched]; rw [role_recv]; split
  · exact if_pos rfl
  · rfl

theorem amount_bar : (sched m).amount (barCell c) 0 d = 1 := by dsimp only [sched]; rw [role_bar]; rfl
theorem amount_send : (sched m).amount (sendCell c j) 0 d = NB := by dsimp only [sched]; rw [role_send]; rfl
theorem amount_recv : (sched m).amount (recvCell c s) 0 d = NB := by dsimp only [sched]; rw [role_recv]; rfl

theorem payload_bar : (sched m).payload (barCell c) 0 d = rSlot d c := by dsimp only [sched]; rw [role_bar]; rfl
theorem payload_send : (sched m).payload (sendCell c j) 0 d = sSlot c j := by dsimp only [sched]; rw [role_send]; rfl
theorem payload_recv : (sched m).payload (recvCell c s) 0 d = rGot m c s := by dsimp only [sched]; rw [role_recv]; rfl

theorem expect_bar : (sched m).expect (barCell c) 0 = 16 := by
  unfold Schedule.expect Schedule.amountOf
  rw [duties_bar, Finset.sum_congr rfl fun d _ => amount_bar m c d, Finset.sum_const, Finset.card_univ, Fintype.card_fin, smul_eq_mul]
  rfl
theorem expect_send (h : j ≠ c) : (sched m).expect (sendCell c j) 0 = NB := by
  unfold Schedule.expect Schedule.amountOf; rw [duties_send m c j h, Finset.sum_singleton, amount_send]
theorem expect_recv (h : s ≠ c) : (sched m).expect (recvCell c s) 0 = NB := by
  unfold Schedule.expect Schedule.amountOf; rw [duties_recv m c s h, Finset.sum_singleton, amount_recv]

theorem rest_bar : bigSep ((sched m).duties (barCell c) 0 \ ∅) (fun d => (sched m).payload (barCell c) 0 d)
    = (bigSep Finset.univ fun d => rSlot (F := F) d c) := by
  rw [Finset.sdiff_empty, duties_bar]; exact bigSep_congr fun d _ => payload_bar m c d
theorem rest_send (h : j ≠ c) : bigSep ((sched m).duties (sendCell c j) 0 \ ∅) (fun d => (sched m).payload (sendCell c j) 0 d) = sSlot (F := F) c j := by
  rw [Finset.sdiff_empty, duties_send m c j h, bigSep_singleton, payload_send]
theorem rest_recv (h : s ≠ c) : bigSep ((sched m).duties (recvCell c s) 0 \ ∅) (fun d => (sched m).payload (recvCell c s) 0 d) = rGot m c s := by
  rw [Finset.sdiff_empty, duties_recv m c s h, bigSep_singleton, payload_recv]

end Tables

/-! ## What a device owes; the levels of the waits -/

/-- The barrier units device `c` still owes once it has raised the first `k` devices' cells. -/
def oBar (k : ℕ) : CellTallies nD τ sig Unit := ∑ d : Dev nD, if k ≤ d.val then tallyAt (barCell d) () 1 else 0
/-- The copies device `c` still owes before grid point `k`: one to every other device from number `k` on. -/
def oSend (k : ℕ) (c : Dev nD) : CellTallies nD τ sig Unit := ∑ j : Dev nD, if k ≤ j.val ∧ j ≠ c then tallyAt (recvCell j c) () NB else 0
/-- What it owes before grid point `k`. -/
def oAt (k : ℕ) (c : Dev nD) : CellTallies nD τ sig Unit := oSend k c + if k = 0 then oBar 0 else 0

/-- A sum of terms present from a bound on loses the term at the bound when the bound rises past it. -/
theorem sum_from {M : Type} [AddCommMonoid M] (f : Dev nD → M) (k : Dev nD) :
    (∑ d : Dev nD, if k.val ≤ d.val then f d else 0) = (∑ d : Dev nD, if k.val + 1 ≤ d.val then f d else 0) + f k := by
  rw [← Finset.add_sum_erase Finset.univ (fun d : Dev nD => if k.val ≤ d.val then f d else 0) (Finset.mem_univ k),
    ← Finset.add_sum_erase Finset.univ (fun d : Dev nD => if k.val + 1 ≤ d.val then f d else 0) (Finset.mem_univ k),
    if_pos (le_refl _), if_neg (by omega), zero_add, add_comm]
  congr 1
  refine Finset.sum_congr rfl fun d hd => ?_
  have hne : d.val ≠ k.val := fun h => (Finset.mem_erase.mp hd).1 (Fin.ext h)
  by_cases h : k.val ≤ d.val
  · rw [if_pos h, if_pos (by omega)]
  · rw [if_neg h, if_neg (by omega)]

theorem oBar_step (k : Dev nD) : oBar k.val = oBar (k.val + 1) + tallyAt (barCell k) () 1 := sum_from _ k
theorem oBar_end : oBar 16 = 0 := Finset.sum_eq_zero fun d _ => if_neg (by have : d.val < 16 := d.isLt; omega)

theorem oSend_eq (k : ℕ) (c : Dev nD) :
    oSend k c = ∑ j : Dev nD, if k ≤ j.val then (if j ≠ c then tallyAt (recvCell j c) () NB else 0) else 0 := by
  unfold oSend; refine Finset.sum_congr rfl fun j _ => ?_
  by_cases h : k ≤ j.val <;> by_cases h' : j = c <;> simp [h, h']
theorem oSend_step (k c : Dev nD) (h : k ≠ c) : oSend k.val c = oSend (k.val + 1) c + tallyAt (recvCell k c) () NB := by
  rw [oSend_eq, oSend_eq, sum_from, if_pos h]
theorem oSend_self (c : Dev nD) : oSend c.val c = oSend (c.val + 1) c := by
  rw [oSend_eq, oSend_eq, sum_from, if_neg (fun h => h rfl), add_zero]
theorem oSend_end (c : Dev nD) : oSend 16 c = 0 := Finset.sum_eq_zero fun d _ => if_neg (by have : d.val < 16 := d.isLt; omega)

theorem oAt_zero (c : Dev nD) : oAt 0 c = oSend 0 c + oBar 0 := by unfold oAt; rw [if_pos rfl]
theorem oAt_pos {k : ℕ} (h : k ≠ 0) (c : Dev nD) : oAt k c = oSend k c := by unfold oAt; rw [if_neg h, add_zero]

/-- Every cell of a device has the one level index. -/
def L (g : GSem nD τ sig) : Finset Unit := if g.1.2 = .tc then {()} else ∅
/-- Barrier cells at 1, receive cells at 2, all others at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [role_bar]
theorem lv_recv (c s : Dev nD) : lv (recvCell c s) () = 2 := by dsimp only [lv]; rw [role_recv]

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem oSend_pos {k : ℕ} {c : Dev nD} {g : GSem nD τ sig} {u : Unit} (h : 0 < oSend k c g u) : ∃ j, g = recvCell j c := by
  by_contra hn
  have : oSend k c g u = 0 := by
    unfold oSend
    rw [Finset.sum_apply, Finsupp.finset_sum_apply]
    refine Finset.sum_eq_zero fun j _ => ?_
    split
    · by_contra h0; exact hn ⟨j, tally_pos (Nat.pos_of_ne_zero h0)⟩
    · rfl
  omega
theorem oBar_pos {k : ℕ} {g : GSem nD τ sig} {u : Unit} (h : 0 < oBar k g u) : ∃ d, g = barCell d := by
  by_contra hn
  have : oBar k g u = 0 := by
    unfold oBar
    rw [Finset.sum_apply, Finsupp.finset_sum_apply]
    refine Finset.sum_eq_zero fun j _ => ?_
    split
    · by_contra h0; exact hn ⟨j, tally_pos (Nat.pos_of_ne_zero h0)⟩
    · rfl
  omega
theorem oAt_lv {k : ℕ} {c : Dev nD} {g : GSem nD τ sig} {u : Unit} (h : 0 < oAt k c g u) : () ∈ L g ∧ 0 < lv g u := by
  have hs : 0 < oSend k c g u ∨ 0 < oBar 0 g u := by
    unfold oAt at h
    rw [Pi.add_apply, Finsupp.add_apply] at h
    split at h
    · omega
    · left; simpa using h
  rcases hs with hs | hs
  · obtain ⟨j, rfl⟩ := oSend_pos hs; exact ⟨by rw [L_tc]; exact Finset.mem_singleton_self _, by rw [lv_recv]; decide⟩
  · obtain ⟨j, rfl⟩ := oBar_pos hs; exact ⟨by rw [L_tc]; exact Finset.mem_singleton_self _, by rw [lv_bar]; decide⟩

omit [FloatOps F] in
/-- A staging wait is allowed whatever of the exchange is still owed. -/
theorem mayWait_stage (c : Dev nD) (q : DmaSem sig) (hq : q.val < 4) (k : ℕ) :
    (levAts L lv : sProp 𝕄) ⊢ MayWait (c : Thread nD τ) (.dma q) () (oAt k c) :=
  MayOwe.of_cut (L := L) (lev := lv) 0 (fun p hp => by rw [Finset.mem_singleton.mp hp, L_tc]; exact Finset.mem_singleton_self _)
    (fun g u hg => (oAt_lv hg).1)
    (fun p hp => by rw [Finset.mem_singleton.mp hp]; dsimp only [lv]; rw [role_stage q hq])
    (fun g u hg => (oAt_lv hg).2)

omit [FloatOps F] in
/-- The barrier wait is allowed while only copies are owed. -/
theorem mayWait_bar (c : Dev nD) (k : ℕ) :
    (levAts L lv : sProp 𝕄) ⊢ MayWait (c : Thread nD τ) (.reg barS) () (oSend k c) :=
  MayOwe.of_cut (L := L) (lev := lv) 1 (fun p hp => by rw [Finset.mem_singleton.mp hp, L_tc]; exact Finset.mem_singleton_self _)
    (fun g u hg => by obtain ⟨j, rfl⟩ := oSend_pos hg; rw [L_tc]; exact Finset.mem_singleton_self _)
    (fun p hp => by rw [Finset.mem_singleton.mp hp]; exact (lv_bar c).le)
    (fun g u hg => by obtain ⟨j, rfl⟩ := oSend_pos hg; show 1 < lv _ (); rw [lv_recv]; decide)

end Cert.Ex

end
-- ==== Proof.Steps.lean ====
/-
The pieces of the kernel's body, one theorem per kind of piece and at a symbolic place: raising one device's
barrier cell, the barrier wait, the store of a device's own rows, the store into a slot and its copy to the
other device, the wait for one arriving slot with the store of its rows, and the wait for one departed slot.
Each is stated for whatever program follows it.
-/
module

public import proofs.«01_k».proof.Proof.Common

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

abbrev 𝒱₀ : Variants := Variants.none

/-- The weakest precondition of a program run by device `c`'s core. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × CI → ℕ)

/-! ## The cells' records -/

omit [FloatOps F] in
/-- A family over a whole type gives any one member. -/
theorem bigSep_member {I : Type} [Fintype I] {Φ : I → sProp 𝕄} (i : I) : bigSep Finset.univ Φ ⊢ Φ i := by
  classical exact bigSep_elim (Finset.mem_univ i)

/-- Every cell of every device is in the exchange, and has reached its round. -/
def recs : sProp 𝕄 :=
  iprop((bigSep Finset.univ fun ck => cellInv EX (sched m) (K ck) (kcell ck)) ∗ bigSep Finset.univ fun ck => reached EX (kcell ck) 0)

instance recs_persistent : BI.Persistent (recs m K) := by unfold recs; infer_instance

theorem recs_inv (ck : Dev nD × CI) : recs m K ⊢ cellInv EX (sched m) (K ck) (kcell ck) := by
  unfold recs; iintro ⟨H, -⟩
  iapply (bigSep_member (Φ := fun ck => cellInv EX (sched m) (K ck) (kcell ck)) ck); iexact H
theorem recs_reached (ck : Dev nD × CI) : recs m K ⊢ reached EX (kcell ck) 0 := by
  unfold recs; iintro ⟨-, H⟩
  iapply (bigSep_member (Φ := fun ck => reached EX (kcell ck) 0) ck); iexact H

/-! ## Families that change one member at a time -/

/-- A family whose members below `k` are in state `A` and the rest in state `B`. -/
def upTo (k : ℕ) (A B : Dev nD → sProp 𝕄) : sProp 𝕄 := bigSep Finset.univ fun d : Dev nD => if d.val < k then A d else B d

omit [FloatOps F] in
theorem upTo_zero (A B : Dev nD → sProp 𝕄) : upTo 0 A B = bigSep Finset.univ B := by
  unfold upTo; exact bigSep_congr fun d _ => if_neg (Nat.not_lt_zero _)
omit [FloatOps F] in
theorem upTo_all (A B : Dev nD → sProp 𝕄) : upTo 16 A B = bigSep Finset.univ A := by
  unfold upTo; exact bigSep_congr fun d _ => if_pos d.isLt
omit [FloatOps F] in
/-- Member `k` is taken out in state `B` and put back in state `A`: the bound moves past it. -/
theorem upTo_step (A B : Dev nD → sProp 𝕄) (k : Dev nD) : upTo k.val A B ⊢ iprop(B k ∗ (A k -∗ upTo (k.val + 1) A B)) := by
  unfold upTo
  refine (bigSep_univ_update (Ψ := fun d : Dev nD => if d.val < k.val + 1 then A d else B d) k fun j hj => ?_).trans
    (Entails.of_eq ?_)
  · have : j.val ≠ k.val := fun h => hj (Fin.ext h)
    by_cases h : j.val < k.val
    · rw [if_pos h, if_pos (by omega)]
    · rw [if_neg h, if_neg (by omega)]
  · rw [if_neg (Nat.lt_irrefl _), if_pos (Nat.lt_succ_self _)]

/-- What a device owes, whatever waits it has recorded. -/
def owing (c : Dev nD) (O : CellTallies nD τ sig Unit) : sProp 𝕄 := iprop(∃ W, owes (c : Thread nD τ) O W)

/-! ## What a device holds of each slot -/

/-- Of the copy to device `j`, before the barrier: the slot it is sent from, the position on its send cell, and the tokens of the
    two cells it pays. -/
def Sinit (c j : Dev nD) : sProp 𝕄 :=
  iprop(sSlot c j ∗ atPos EX (sendCell c j) 0 ∅ 0 ∗ dutyTok EX (sendCell c j) 0 0 ∗ dutyTok EX (recvCell j c) 0 0)
/-- Of the copy to device `j`, before its grid point: the slot it lands in as well. -/
def Stodo (c j : Dev nD) : sProp 𝕄 := iprop(Sinit c j ∗ rSlot j c)
/-- Of the copy to device `j`, once started: the credit of its departure; for the device itself both slots still. -/
def Ssent (c j : Dev nD) : sProp 𝕄 :=
  iprop(atPos EX (sendCell c j) 0 ∅ 0 ∗ if j = c then iprop(sSlot c c ∗ rSlot c c) else cred (tallyAt (sendCell c j) () NB))
/-- Of the copy to device `j`, once departed: its send cell at zero and the slot it was sent from. -/
def Sfin (c j : Dev nD) : sProp 𝕄 := iprop(semVal (sendCell c j) 0 ∗ sSlot c j ∗ if j = c then rSlot c c else iprop(emp))
/-- Of the copy from device `s`, before it is waited for: the position on its receive cell and the credit of its arrival. -/
def Rtodo (c s : Dev nD) : sProp 𝕄 :=
  iprop(atPos EX (recvCell c s) 0 ∅ 0 ∗ if s = c then iprop(emp) else cred (tallyAt (recvCell c s) () NB))
/-- Of the copy from device `s`, once waited for: its receive cell at zero and the slot it landed in. -/
def Rfin (c s : Dev nD) : sProp 𝕄 := iprop(semVal (recvCell c s) 0 ∗ if s = c then iprop(emp) else rSlot c s)

/-! ## The barrier -/

/-- What raising the barrier cells from device `k`'s on needs of device `c`: the slots handed over and the tokens. -/
def Bgive (c d : Dev nD) : sProp 𝕄 := iprop(rSlot c d ∗ dutyTok EX (barCell d) 0 c)

/-- What a device holds in the middle of its barrier signals, `k` of them done. -/
def sigState (c : Dev nD) (k : ℕ) : sProp 𝕄 :=
  iprop(recs m K ∗ owing c (oSend 0 c + oBar k) ∗ upTo k (fun _ => iprop(emp)) (Bgive c))

/-- Raising the barrier cell of device `k`, handing over slot `k` of the raiser's landing buffer. -/
theorem run_signal (c k : Dev nD) {n : Dev nD} (hn : n = k) {R : sProp 𝕄} {α : Type} {Q : α → sProp 𝕄}
    {p : PUnit → Prog (TpuEff nD τ sig (Elt F) Λ₀ .tc) α} (hp : iprop(sigState m K c (k.val + 1) ∗ R) ⊢ run c (p ⟨⟩) Q) :
    iprop(sigState m K c k.val ∗ R) ⊢ run c (semSignalWord n barS 1#32 >>= p) Q := by
  subst hn
  have hO : oSend 0 c + oBar n.val = oSend 0 c + oBar (n.val + 1) + tallyAt (barCell n) () (1#32).toNat := by
    rw [oBar_step n, add_assoc]; rfl
  simp only [semSignalWord, Prog.lift, Prog.bind_op, Prog.bind_ret]
  unfold sigState owing
  iintro ⟨⟨#HR, ⟨%W, HO⟩, HB⟩, Hrest⟩
  ihave HB := (upTo_step (fun _ => iprop(emp)) (Bgive c) n) $$ HB
  unfold Bgive
  icases HB with ⟨⟨Hs, Ht⟩, HB⟩
  iapply (Rounds.wp_signal 𝒱₀ EX (sched m) (c : Thread nD τ) none (dst := (n : Thread nD τ)) (κ := K (n, .inl ()))
      (d := c) (by rw [duties_bar]; exact Finset.mem_univ _) ((amount_bar m n c).trans (by decide)) ()
      (oSend 0 c + oBar (n.val + 1)) hO) $$ [HO Hs Ht]
  · isplitr; · iapply (recs_inv m K (n, .inl ())); iexact HR
    isplitl [HO]; · iexact HO
    isplitl [Ht]; · iexact Ht
    isplitl [Hs]; · rw [payload_bar]; iexact Hs
    iapply (recs_reached m K (n, .inl ())); iexact HR
  iintro HO
  iapply hp
  unfold sigState owing
  isplitr [Hrest]
  · isplitr; · iexact HR
    isplitl [HO]; · iexists W; iexact HO
    iapply HB; iempintro
  iexact Hrest

/-- The barrier wait: the slot of every device's landing buffer that `c` writes comes with it, and the cell is done with. -/
theorem run_barrier (c : Dev nD) {R : sProp 𝕄} {α : Type} {Q : α → sProp 𝕄}
    {p : PUnit → Prog (TpuEff nD τ sig (Elt F) Λ₀ .tc) α}
    (hp : iprop(recs m K ∗ owing c (oSend 0 c) ∗ (bigSep Finset.univ fun j => rSlot j c) ∗ semVal (barCell c) 0 ∗ R) ⊢ run c (p ⟨⟩) Q) :
    iprop(sigState m K c 16 ∗ levAts L lv ∗ cred (tallyAt (barCell c) () 16) ∗ atPos EX (barCell c) 0 ∅ 0 ∗ R)
      ⊢ run c (semWaitWord barS 16#32 >>= p) Q := by
  simp only [semWaitWord, Prog.lift, Prog.bind_op, Prog.bind_ret]
  unfold sigState owing
  rw [oBar_end, add_zero]
  iintro ⟨⟨#HR, ⟨%W, HO⟩, -⟩, #Hlev, Hc, Hat, Hrest⟩
  iapply (Rounds.wp_wait_rest_token 𝒱₀ EX (sched m) (c : Thread nD τ) none (κ := K (c, .inl ()))
      (wpE_semWait_eq 𝒱₀ (c : Thread nD τ) none Set.univ) (Set.mem_univ _) () (O := oSend 0 c) (W := W) (R := 0) (m := 0) (T := ∅)
      (by rw [expect_bar]; decide)) $$ [Hc HO Hat]
  · isplitr; · iapply (recs_inv m K (c, .inl ())); iexact HR
    isplitl [Hc]; · iexact Hc
    isplitl [HO]; · iexact HO
    isplitr; · iapply (mayWait_bar c 0); iexact Hlev
    iexact Hat
  iintro ⟨HO, Hat, -, Hpay⟩
  ihave Hp := (Entails.of_eq (rest_bar m c)) $$ Hpay
  imod (Rounds.cell_close EX (sched m) (Set.mem_univ (K (c, .inl ()))) (fun h => h) (R := 0 + 1) (duties_later m (barCell c))) $$ [Hat] with Hz
  · isplitr; · iapply (recs_inv m K (c, .inl ())); iexact HR
    iexact Hat
  iapply hp
  unfold owing
  isplitr; · iexact HR
  isplitl [HO]; · iexists _; iexact HO
  isplitl [Hp]; · iexact Hp
  isplitl [Hz]; · iexact Hz
  iexact Hrest

/-! ## Reading and writing through a memref held with its contents -/

section Mem
variable {s : Shape} {e : EltTy} (c : Dev nD)

/-- A load through a rectangle of a memref held at `X` reads `X` there. -/
theorem run_load {R : sProp 𝕄} {α : Type} {Q : α → sProp 𝕄} {M : Memref sig .tc .vmem s e} {r : Rect s} {hl : M.view.LoadsAt r.toLoadRect} {X : s.Idx → Elt F e}
    {p : (r.shape.Idx → Elt F e) → Prog (TpuEff nD τ sig (Elt F) Λ₀ .tc) α}
    (hp : ∀ v, (v = fun x => X (r.emb x)) → (iprop(owns (c : Thread nD τ) M fullShare X ∗ R) ⊢ run c (p v) Q)) :
    iprop(owns (c : Thread nD τ) M fullShare X ∗ R) ⊢ run c (Prog.lift (.load M r.toLoadRect hl) >>= p) Q := by
  simp only [Prog.lift, Prog.bind_op, Prog.bind_ret]
  unfold owns at hp ⊢
  iintro ⟨⟨%f, %hf, H⟩, Hr⟩
  iapply (wp_load_rect 𝒱₀ (c : Thread nD τ) none Set.univ (m := M) (r := r) (View.set_slice_subset _ r)) $$ H
  iintro H
  iapply (hp ((M.access r).read (Elt F) f) (by subst hf; rfl))
  isplitl [H]
  · iexists f; isplitr; · ipureintro; exact hf
    iexact H
  iexact Hr

/-- A store through a rectangle of a memref held at `X`: the contents there are the stored ones and elsewhere `X`. -/
theorem run_store {R : sProp 𝕄} {α : Type} {Q : α → sProp 𝕄} {M : Memref sig .tc .vmem s e} {r : Rect s} {w : r.shape.Idx → Elt F e} {hx : (M.access r).Stores Finset.univ}
    {hm : (Finset.univ : Finset r.shape.Idx) = Finset.univ ∨ ∀ a, r.stride a = 1} {X : s.Idx → Elt F e}
    {p : PUnit → Prog (TpuEff nD τ sig (Elt F) Λ₀ .tc) α}
    (hp : ∀ X' : s.Idx → Elt F e, (∀ x, X' (r.emb x) = w x) → (∀ y, y ∉ r.set → X' y = X y) →
      ∀ u, (iprop(owns (c : Thread nD τ) M fullShare X' ∗ R) ⊢ run c (p u) Q)) :
    iprop(owns (c : Thread nD τ) M fullShare X ∗ R) ⊢ run c (Prog.lift (.store M r w Finset.univ hx hm) >>= p) Q := by
  simp only [Prog.lift, Prog.bind_op, Prog.bind_ret]
  unfold owns at hp ⊢
  iintro ⟨⟨%f, %hf, H⟩, Hr⟩
  subst hf
  iapply (wp_store 𝒱₀ (c : Thread nD τ) none Set.univ (m := M) (r := r) (View.set_slice_subset _ r)) $$ H
  iintro H
  iapply (hp (M.view.read (Elt F) ((M.access r).write (Elt F) f w Finset.univ))
    (fun x => View.read_slice_write_emb r f w (Finset.mem_univ x))
    (fun y hy => View.read_slice_write_of_not_mem r f w Finset.univ (by rwa [Rect.map_emb_univ])) ⟨⟩)
  isplitl [H]
  · iexists ((M.access r).write (Elt F) f w Finset.univ); isplitr; · ipureintro; rfl
    iexact H
  iexact Hr

/-- The indices of a slot, and of the slice it is. -/
abbrev unslot (x : S256x512.Idx) : S1x256x512.Idx := Shape.reshapeEquiv (squeezes_S1x256x512_S256x512).numel_eq x

/-- A load of slot `t` of a sixteen-slot buffer whose slot is held at `X` reads `X`. -/
theorem run_load_slot {R : sProp 𝕄} {α : Type} {Q : α → sProp 𝕄} {b : Memref sig .tc .vmem S16x256x512 .bf16} {t : Dev nD} {hl : b.view.LoadsAt (slotRect t).toLoadRect}
    {X : S256x512.Idx → Elt F .bf16} {p : (S1x256x512.Idx → Elt F .bf16) → Prog (TpuEff nD τ sig (Elt F) Λ₀ .tc) α}
    (hp : ∀ v, (∀ x, v (unslot x) = X x) → (iprop(owns (c : Thread nD τ) (slotM b t) fullShare X ∗ R) ⊢ run c (p v) Q)) :
    iprop(owns (c : Thread nD τ) (slotM b t) fullShare X ∗ R) ⊢ run c (Prog.lift (.load b (slotRect t).toLoadRect hl) >>= p) Q := by
  simp only [Prog.lift, Prog.bind_op, Prog.bind_ret]
  unfold owns at hp ⊢
  iintro ⟨⟨%f, %hf, H⟩, Hr⟩
  iapply (wp_load_rect 𝒱₀ (c : Thread nD τ) none Set.univ (m := b) (r := slotRect t) (View.set_reshape _ _).symm.subset) $$ H
  iintro H
  iapply (hp ((b.access (slotRect t)).read (Elt F) f) (fun x => by subst hf; rfl))
  isplitl [H]
  · iexists f; isplitr; · ipureintro; exact hf
    iexact H
  iexact Hr

/-- A store of slot `t` of a sixteen-slot buffer whose slot is held leaves it at the stored contents. -/
theorem run_store_slot {R : sProp 𝕄} {α : Type} {Q : α → sProp 𝕄} {b : Memref sig .tc .vmem S16x256x512 .bf16} {t : Dev nD} {w : S1x256x512.Idx → Elt F .bf16}
    {hx : (b.access (slotRect t)).Stores Finset.univ}
    {hm : (Finset.univ : Finset (slotRect t).shape.Idx) = Finset.univ ∨ ∀ a, (slotRect t).stride a = 1}
    {X : S256x512.Idx → Elt F .bf16} {p : PUnit → Prog (TpuEff nD τ sig (Elt F) Λ₀ .tc) α}
    (hp : ∀ u, (iprop(owns (c : Thread nD τ) (slotM b t) fullShare (fun x => w (unslot x)) ∗ R) ⊢ run c (p u) Q)) :
    iprop(owns (c : Thread nD τ) (slotM b t) fullShare X ∗ R) ⊢ run c (Prog.lift (.store b (slotRect t) w Finset.univ hx hm) >>= p) Q := by
  simp only [Prog.lift, Prog.bind_op, Prog.bind_ret]
  unfold owns at hp ⊢
  iintro ⟨⟨%f, %hf, H⟩, Hr⟩
  iapply (wp_store 𝒱₀ (c : Thread nD τ) none Set.univ (m := b) (r := slotRect t) (View.set_reshape _ _).symm.subset) $$ H
  iintro H
  iapply (hp ⟨⟩)
  isplitl [H]
  · iexists ((b.access (slotRect t)).write (Elt F) f w Finset.univ); isplitr
    · ipureintro
      funext x
      exact congrFun (View.read_write_univ (v := b.access (slotRect t)) f w) (unslot x)
    iexact H
  iexact Hr

end Mem

/-! ## A grid point's own pieces -/

/-- The result's staging buffer, with the row blocks that are `P` already the result's. -/
def rowsHeld (c : Dev nD) (M : Memref sig .tc .vmem S4096x512 .f32) (P : Dev nD → Prop) : sProp 𝕄 :=
  iprop(∃ X, ⌜∀ s, P s → RowOK m c s X⌝ ∗ owns (c : Thread nD τ) M fullShare X)

omit [FloatOps F] in
/-- Different row blocks share no index. -/
theorem row_apart {s t : Dev nD} (h : s ≠ t) (x : (rowRect s).shape.Idx) : (rowRect s).emb x ∉ (rowRect t).set := fun hm => by
  have hd : Disjoint (rowRect s).set (rowRect t).set := Rect.unit_disjoint (s := S4096x512) 0 (by
    have : s.val ≠ t.val := fun e => h (Fin.ext e)
    show 256 * s.val + 256 ≤ 256 * t.val ∨ 256 * t.val + 256 ≤ 256 * s.val
    omega)
  exact Finset.disjoint_left.mp hd (by rw [← Rect.map_emb_univ]; exact Finset.mem_map_of_mem _ (Finset.mem_univ x)) hm

/-- Storing row block `t` of the result makes it the result's and leaves the others. -/
theorem run_row (c t : Dev nD) {R : sProp 𝕄} {α : Type} {Q : α → sProp 𝕄} {M : Memref sig .tc .vmem S4096x512 .f32} {P P' : Dev nD → Prop} (hP : ∀ s, P' s → s = t ∨ P s)
    {w : (rowRect t).shape.Idx → Elt F .f32} (hw : ∀ x, w x = outBlk m c t x) {hx : (M.access (rowRect t)).Stores Finset.univ}
    {hm : (Finset.univ : Finset (rowRect t).shape.Idx) = Finset.univ ∨ ∀ a, (rowRect t).stride a = 1}
    {hl : M.view.LoadsAt (rowRect t).toLoadRect} {k : PUnit → Prog (TpuEff nD τ sig (Elt F) Λ₀ .tc) α}
    (hk : iprop(rowsHeld m c M P' ∗ R) ⊢ run c (k ⟨⟩) Q) :
    iprop(rowsHeld m c M P ∗ R) ⊢ run c (Prog.lift (.load M (rowRect t).toLoadRect hl) >>= fun _ =>
      Prog.lift (.store M (rowRect t) w Finset.univ hx hm) >>= k) Q := by
  unfold rowsHeld at hk ⊢
  iintro ⟨⟨%X, %hX, H⟩, Hr⟩
  have step := run_load c (hl := hl) (fun _ _ => run_store c (w := w) (hx := hx) (hm := hm) (X := X) (R := R) (p := k) (Q := Q) (M := M) fun X' h1 h2 _ => by
    iintro ⟨H, Hr⟩
    iapply hk
    isplitl [H]
    · iexists X'; isplitr
      · ipureintro
        intro s hs x
        by_cases e : s = t
        · subst e; exact (h1 x).trans (hw x)
        · exact (h2 _ (row_apart e x)).trans (hX s ((hP s hs).resolve_left e) x)
      iexact H
    iexact Hr)
  iapply step
  isplitl [H]; · iexact H
  iexact Hr

/-- The piece of the device's own rows: at its own grid point they are stored. -/
theorem run_own (c j : Dev nD) {R : sProp 𝕄} {α : Type} {Q : α → sProp 𝕄} {M : Memref sig .tc .vmem S4096x512 .f32} {cond : BitVec 1} (hc : cond = 1#1 ↔ j = c)
    {o : Fin 2 → ℕ} (ho : o = ![256 * c.val, 0]) {hin : cond = 1#1 → ∀ a, o a + S256x512.size a ≤ S4096x512.size a}
    {w : Vec F S256x512 .f32} (hw : w = k0_pay1 (xb m c) (wb m c j))
    {hl : ∀ h, M.view.LoadsAt (Rect.unit (s := S4096x512) o S256x512.size (hin h)).toLoadRect}
    {hx : ∀ h, (M.access (Rect.unit (s := S4096x512) o S256x512.size (hin h))).Stores Finset.univ}
    {hm : ∀ h, (Finset.univ : Finset (Rect.unit (s := S4096x512) o S256x512.size (hin h)).shape.Idx) = Finset.univ
      ∨ ∀ a, (Rect.unit (s := S4096x512) o S256x512.size (hin h)).stride a = 1}
    {k : PUnit → Prog (TpuEff nD τ sig (Elt F) Λ₀ .tc) α}
    (hk : iprop(rowsHeld m c M (fun s => s = c ∧ c.val ≤ j.val) ∗ R) ⊢ run c (k ⟨⟩) Q) :
    iprop(rowsHeld m c M (fun s => s = c ∧ c.val < j.val) ∗ R) ⊢ run c
      (if h : cond = 1#1 then Prog.lift (.load M (Rect.unit (s := S4096x512) o S256x512.size (hin h)).toLoadRect (hl h)) >>= fun _ =>
        Prog.lift (.store M (Rect.unit (s := S4096x512) o S256x512.size (hin h)) w Finset.univ (hx h) (hm h)) >>= k
       else k ⟨⟩) Q := by
  subst ho
  by_cases h : cond = 1#1
  · rw [dif_pos h]
    have e := hc.mp h
    subst e
    exact run_row m j j (P' := fun s => s = j ∧ j.val ≤ j.val) (fun s hs => .inl hs.1)
      (fun x => by subst hw; unfold outBlk; rw [if_pos rfl]) hk
  · rw [dif_neg h]
    refine BIBase.Entails.trans ?_ hk
    unfold rowsHeld
    iintro ⟨⟨%X, %hX, H⟩, Hr⟩
    isplitl [H]
    · iexists X; isplitr
      · ipureintro
        intro s hs
        exact hX s ⟨hs.1, by have : j.val ≠ c.val := fun e => h (hc.mpr (Fin.ext e)); omega⟩
      iexact H
    iexact Hr

/-- The copy of slot `j` to device `j`. -/
theorem run_copy (c j : Dev nD) {R : sProp 𝕄} {α : Type} {Q : α → sProp 𝕄} (hj : j ≠ c) {n : Dev nD} (hn : n = j)
    {hsc : (slotM rBuf c : Memref sig (Dev.tc n : Thread nD τ).2.kind .vmem S256x512 .bf16).view.ref.isScScratch = false}
    {hsrc : (slotM sBuf j).view.WordExact} {hdst : (slotM rBuf c).view.WordExact}
    {hsem : DmaTarget.Typed .vmem (.dma (recvS c)) (.remote (Dev.tc n : Thread nD τ) (slotM rBuf c) (.dma (sendS j)) hsc)}
    {p : PUnit → Prog (TpuEff nD τ sig (Elt F) Λ₀ .tc) α}
    (hp : iprop(recs m K ∗ owing c (oSend (j.val + 1) c) ∗ Ssent c j ∗ R) ⊢ run c (p ⟨⟩) Q) :
    iprop(owns (c : Thread nD τ) (slotM sBuf j) fullShare (sent m j c) ∗ recs m K ∗ owing c (oSend j.val c)
        ∗ atPos EX (sendCell c j) 0 ∅ 0 ∗ dutyTok EX (sendCell c j) 0 0 ∗ dutyTok EX (recvCell j c) 0 0 ∗ rSlot j c ∗ R)
      ⊢ run c (Prog.lift (.enqueueDma (slotM sBuf j) (.remote (Dev.tc n : Thread nD τ) (slotM rBuf c) (.dma (sendS j)) hsc) (.dma (recvS c)) hsrc hdst hsem) >>= p) Q := by
  subst hn
  simp only [Prog.lift, Prog.bind_op, Prog.bind_ret]
  unfold owns owing rSlot owns
  iintro ⟨⟨%fs, %hfs, Hs⟩, #HR, ⟨%W, HO⟩, Hat, Ht1, Ht2, ⟨%X, %fd, %hfd, Hd⟩, Hr⟩
  iapply (Rounds.wp_send_pointsTo 𝒱₀ EX (sched m) (c : Thread nD τ) none (κ₁ := K (c, .inr (.inl n))) (κ₂ := K (n, .inr (.inr c)))
    (r₁ := 0) (r₂ := 0) (d₁ := 0) (d₂ := 0) (q := fullShare) (fs := fs) (fd := fd)
    (c' := (Dev.tc n : Thread nD τ)) (src := slotM sBuf n) (dst := (slotM rBuf c : Memref sig (Dev.tc n : Thread nD τ).2.kind .vmem S256x512 .bf16)) (hsc := hsc) (hsrc := hsrc) (hdst := hdst) (hsem := hsem)
    (by rw [duties_send m c n hj]; exact Finset.mem_singleton_self _) (by rw [duties_recv m n c (Ne.symm hj)]; exact Finset.mem_singleton_self _)
    () () NB (credit_r c) (amount_send m c n 0) (amount_recv m n c 0) (oSend (n.val + 1) c) (oSend_step n c hj) (W := W)
    (by
      rw [payload_send]; unfold sSlot owns
      iintro H; iexists _; iexists fs; isplitr; · ipureintro; rfl
      iexact H)
    (by
      rw [payload_recv]; unfold rGot owns
      iintro H; iexists _; isplitr
      · ipureintro; exact (View.read_write_univ (v := (slotM rBuf c).view) fd _).trans hfs
      iexact H)) $$ [Hs Hd HO Ht1 Ht2]
  · isplitr; · iapply (recs_inv m K (c, .inr (.inl n))); iexact HR
    isplitr; · iapply (recs_inv m K (n, .inr (.inr c))); iexact HR
    isplitl [Hs]; · iexact Hs
    isplitl [Hd]; · iexact Hd
    isplitl [HO]; · iexact HO
    isplitl [Ht1]; · iexact Ht1
    isplitr; · iapply (recs_reached m K (c, .inr (.inl n))); iexact HR
    isplitl [Ht2]; · iexact Ht2
    iapply (recs_reached m K (n, .inr (.inr c))); iexact HR
  iintro ⟨Hc, HO⟩
  iapply hp
  unfold owing Ssent
  rw [if_neg hj]
  isplitr; · iexact HR
  isplitl [HO]; · iexists W; iexact HO
  isplitl [Hat Hc]
  · isplitl [Hat]; · iexact Hat
    iexact Hc
  iexact Hr

/-- The piece of grid point `j`'s copy: on every device but `j` the activations go into slot `j` and from there to device `j`. -/
theorem run_send (c j : Dev nD) {R : sProp 𝕄} {α : Type} {Q : α → sProp 𝕄} {cond : BitVec 1} (hc : cond = 1#1 ↔ j ≠ c) {o2 o5 o6 : Fin 3 → ℕ} {o3 o4 : Fin 1 → ℕ} {n : ℕ}
    (h2 : o2 = ![j.val, 0, 0]) (h3 : o3 = ![j.val]) (h4 : o4 = ![c.val]) (h5 : o5 = ![c.val, 0, 0]) (h6 : o6 = ![j.val, 0, 0])
    (hn : n = j.val)
    {i2 : cond = 1#1 → ∀ a, o2 a + S1x256x512.size a ≤ S16x256x512.size a}
    {i3 : cond = 1#1 → ∀ a, o3 a + S1.size a ≤ S16.size a} {i4 : cond = 1#1 → ∀ a, o4 a + S1.size a ≤ S16.size a}
    {i5 : cond = 1#1 → ∀ a, o5 a + S1x256x512.size a ≤ S16x256x512.size a}
    {i6 : cond = 1#1 → ∀ a, o6 a + S1x256x512.size a ≤ S16x256x512.size a} {hlt : cond = 1#1 → n < nD}
    {w : Vec F S1x256x512 .bf16} (hw : w = k0_pay2 (xb m c) (wb m c j))
    {hl : ∀ h, sBuf.view.LoadsAt (Rect.unit (s := S16x256x512) o2 S1x256x512.size (i2 h)).toLoadRect}
    {hx : ∀ h, (sBuf.access (Rect.unit (s := S16x256x512) o2 S1x256x512.size (i2 h))).Stores Finset.univ}
    {hm : ∀ h, (Finset.univ : Finset (Rect.unit (s := S16x256x512) o2 S1x256x512.size (i2 h)).shape.Idx) = Finset.univ
      ∨ ∀ a, (Rect.unit (s := S16x256x512) o2 S1x256x512.size (i2 h)).stride a = 1}
    {hsc : ∀ h, (((rBuf.slice (Rect.unit (s := S16x256x512) o5 S1x256x512.size (i5 h)) (fun _ => rfl)).squeeze S256x512 squeezes_S1x256x512_S256x512)
      : Memref sig (Dev.tc (⟨n, hlt h⟩ : Dev nD) : Thread nD τ).2.kind .vmem S256x512 .bf16).view.ref.isScScratch = false}
    {hsrc : ∀ h, ((sBuf.slice (Rect.unit (s := S16x256x512) o6 S1x256x512.size (i6 h)) (fun _ => rfl)).squeeze S256x512 squeezes_S1x256x512_S256x512).view.WordExact}
    {hdst : ∀ h, ((rBuf.slice (Rect.unit (s := S16x256x512) o5 S1x256x512.size (i5 h)) (fun _ => rfl)).squeeze S256x512 squeezes_S1x256x512_S256x512).view.WordExact}
    {hsem : ∀ h, DmaTarget.Typed .vmem (.dma ((cc0_scratch3.slice (Rect.unit (s := S16) o4 S1.size (i4 h))).squeeze S_ squeezes_S1_S_).sem)
      (.remote (Dev.tc (⟨n, hlt h⟩ : Dev nD) : Thread nD τ)
        ((rBuf.slice (Rect.unit (s := S16x256x512) o5 S1x256x512.size (i5 h)) (fun _ => rfl)).squeeze S256x512 squeezes_S1x256x512_S256x512)
        (.dma ((cc0_scratch2.slice (Rect.unit (s := S16) o3 S1.size (i3 h))).squeeze S_ squeezes_S1_S_).sem) (hsc h))}
    {k : PUnit → Prog (TpuEff nD τ sig (Elt F) Λ₀ .tc) α}
    (hk : iprop(recs m K ∗ owing c (oSend (j.val + 1) c) ∗ Ssent c j ∗ R) ⊢ run c (k ⟨⟩) Q) :
    iprop(recs m K ∗ owing c (oSend j.val c) ∗ Stodo c j ∗ R) ⊢ run c
      (if h : cond = 1#1 then Prog.lift (.load sBuf (Rect.unit (s := S16x256x512) o2 S1x256x512.size (i2 h)).toLoadRect (hl h)) >>= fun _ =>
        Prog.lift (.store sBuf (Rect.unit (s := S16x256x512) o2 S1x256x512.size (i2 h)) w Finset.univ (hx h) (hm h)) >>= fun _ =>
        Prog.lift (.enqueueDma
          ((sBuf.slice (Rect.unit (s := S16x256x512) o6 S1x256x512.size (i6 h)) (fun _ => rfl)).squeeze S256x512 squeezes_S1x256x512_S256x512)
          (.remote (Dev.tc (⟨n, hlt h⟩ : Dev nD))
            ((rBuf.slice (Rect.unit (s := S16x256x512) o5 S1x256x512.size (i5 h)) (fun _ => rfl)).squeeze S256x512 squeezes_S1x256x512_S256x512)
            (.dma ((cc0_scratch2.slice (Rect.unit (s := S16) o3 S1.size (i3 h))).squeeze S_ squeezes_S1_S_).sem) (hsc h))
          (.dma ((cc0_scratch3.slice (Rect.unit (s := S16) o4 S1.size (i4 h))).squeeze S_ squeezes_S1_S_).sem) (hsrc h) (hdst h) (hsem h)) >>= k
       else k ⟨⟩) Q := by
  subst h2 h3 h4 h5 h6 hn hw
  unfold Stodo Sinit
  by_cases h : cond = 1#1
  · rw [dif_pos h]
    have hj := hc.mp h
    unfold sSlot
    iintro ⟨HR, HO, ⟨⟨⟨%X, Hs⟩, Hat, Ht1, Ht2⟩, Hd⟩, Hr⟩
    have step := run_load_slot c (b := sBuf) (t := j) (X := X) (hl := hl h) fun _ _ =>
      run_store_slot c (b := sBuf) (t := j) (w := k0_pay2 (xb m c) (wb m c j)) (X := X) (hx := hx h) (hm := hm h)
        (fun _ => run_copy m K c j hj (n := ⟨j.val, hlt h⟩) rfl (hsc := hsc h) (hsrc := hsrc h) (hdst := hdst h) (hsem := hsem h) hk)
    iapply step
    isplitl [Hs]; · iexact Hs
    isplitl [HR]; · iexact HR
    isplitl [HO]; · iexact HO
    isplitl [Hat]; · iexact Hat
    isplitl [Ht1]; · iexact Ht1
    isplitl [Ht2]; · iexact Ht2
    isplitl [Hd]; · iexact Hd
    iexact Hr
  · rw [dif_neg h]
    have hj : j = c := by_contra fun e => h (hc.mpr e)
    subst hj
    refine BIBase.Entails.trans ?_ hk
    rw [oSend_self]; unfold Ssent; rw [if_pos rfl]
    iintro ⟨HR, HO, ⟨⟨Hs, Hat, -, -⟩, Hd⟩, Hr⟩
    isplitl [HR]; · iexact HR
    isplitl [HO]; · iexact HO
    isplitl [Hs Hat Hd]
    · isplitl [Hat]; · iexact Hat
      isplitl [Hs]; · iexact Hs
      iexact Hd
    iexact Hr

end Cert.Ex

end
-- ==== Proof.Waits.lean ====
/-
The last grid point's waits: for each other device the wait for its copy to arrive with the store of the rows it brings,
then for each other device the wait for the copy sent to it to have departed; and what these pieces come to in turn.
-/
module

public import proofs.«01_k».proof.Proof.Steps

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ) (K : Dev nD × CI → ℕ)

/-- What a device holds once the first `k` devices' copies have been waited for: their row blocks are in the result. -/
def recvState (c : Dev nD) (M : Memref sig .tc .vmem S4096x512 .f32) (k : ℕ) : sProp 𝕄 :=
  iprop(recs m K ∗ owing c 0 ∗ upTo k (Rfin c) (Rtodo c) ∗ rowsHeld m c M (fun s => s = c ∨ s.val < k))

/-- The piece of the copy from device `s`: it is waited for, and its row block stored. -/
theorem run_recv (c s : Dev nD) {R : sProp 𝕄} {α : Type} {Q : α → sProp 𝕄} {M : Memref sig .tc .vmem S4096x512 .f32}
    {cond : BitVec 1} (hc : cond = 1#1 ↔ s ≠ c) {pay : Vec F S1x256x512 .bf16 → Vec F S256x512 .f32} (hpay : pay = k0_pay3)
    {hs : cond = 1#1 → (slotM sBuf s).view.WordExact} {hd : cond = 1#1 → (slotM rBuf s).view.WordExact}
    {hl : cond = 1#1 → rBuf.view.LoadsAt (slotRect s).toLoadRect} {hl' : cond = 1#1 → M.view.LoadsAt (rowRect s).toLoadRect}
    {hx : cond = 1#1 → (M.access (rowRect s)).Stores Finset.univ}
    {hm : cond = 1#1 → ((Finset.univ : Finset (rowRect s).shape.Idx) = Finset.univ ∨ ∀ a, (rowRect s).stride a = 1)}
    {k : PUnit → Prog (TpuEff nD τ sig (Elt F) Λ₀ .tc) α}
    (hk : iprop(recvState m K c M (s.val + 1) ∗ R) ⊢ run c (k ⟨⟩) Q) :
    iprop(recvState m K c M s.val ∗ R) ⊢ run c
      (if h : cond = 1#1 then Prog.lift (.waitDma2 (recvS s) (slotM sBuf s) (slotM rBuf s) (hs h) (hd h)) >>= fun _ =>
        Prog.lift (.load rBuf (slotRect s).toLoadRect (hl h)) >>= fun v =>
        Prog.lift (.load M (rowRect s).toLoadRect (hl' h)) >>= fun _ =>
        Prog.lift (.store M (rowRect s) (pay v) Finset.univ (hx h) (hm h)) >>= k
       else k ⟨⟩) Q := by
  subst hpay
  by_cases h : cond = 1#1
  · rw [dif_pos h]
    have hsc := hc.mp h
    have store := fun (R' : sProp 𝕄) (hk' : iprop(rowsHeld m c M (fun t => t = c ∨ t.val < s.val + 1) ∗
          owns (c : Thread nD τ) (slotM rBuf s) fullShare (sent m c s) ∗ R') ⊢ run c (k ⟨⟩) Q) =>
      run_load_slot c (b := rBuf) (t := s) (X := sent m c s) (hl := hl h) (R := iprop(rowsHeld m c M (fun t => t = c ∨ t.val < s.val) ∗ R')) (Q := Q)
        (p := fun v => Prog.lift (.load M (rowRect s).toLoadRect (hl' h)) >>= fun _ =>
          Prog.lift (.store M (rowRect s) (k0_pay3 v) Finset.univ (hx h) (hm h)) >>= k) fun v hv => by
      have row := run_row m c s (P := fun t => t = c ∨ t.val < s.val) (P' := fun t => t = c ∨ t.val < s.val + 1) (w := k0_pay3 v)
        (fun t ht => by
          rcases ht with e | e
          · exact .inr (.inl e)
          · by_cases e' : t = s
            · exact .inl e'
            · exact .inr (.inr (by have : t.val ≠ s.val := fun q => e' (Fin.ext q); omega)))
        (fun x => by
          unfold outBlk; rw [if_neg hsc]
          exact congrArg (fun f : Vec F S256x512 .bf16 => extf .f32 f bitsLt_bf16_f32 x) (funext hv))
        (hx := hx h) (hm := hm h) (hl := hl' h) hk'
      iintro ⟨Hs, HX, Hr⟩
      iapply row
      isplitl [HX]; · iexact HX
      isplitl [Hs]; · iexact Hs
      iexact Hr
    simp only [Prog.lift, Prog.bind_op, Prog.bind_ret] at store ⊢
    unfold recvState owing at hk ⊢
    iintro ⟨⟨#HR, ⟨%W, HO⟩, HU, HX⟩, Hr⟩
    ihave HU := (upTo_step (Rfin c) (Rtodo c) s) $$ HU
    unfold Rtodo Rfin
    rw [if_neg hsc, if_neg hsc]
    icases HU with ⟨⟨Hat, Hc⟩, HU⟩
    iapply (Rounds.wp_wait_rest_token 𝒱₀ EX (sched m) (c : Thread nD τ) none (κ := K (c, .inr (.inr s)))
        (wpE_waitDma2_eq 𝒱₀ (c : Thread nD τ) none Set.univ) (Set.mem_univ _) () (O := 0) (W := W) (R := 0) (m := 0) (T := ∅)
        (by rw [Nat.zero_add, expect_recv m c s hsc])) $$ [Hc HO Hat]
    · isplitr; · iapply (recs_inv m K (c, .inr (.inr s))); iexact HR
      isplitl [Hc]; · iexact Hc
      isplitl [HO]; · iexact HO
      isplitr; · rw [MayWait_zero]; iempintro
      iexact Hat
    iintro ⟨HO, Hat, -, Hpay⟩
    ihave Hp := (Entails.of_eq (rest_recv m c s hsc)) $$ Hpay
    imod (Rounds.cell_close EX (sched m) (Set.mem_univ (K (c, .inr (.inr s)))) (fun h => h) (R := 0 + 1) (duties_later m (recvCell c s))) $$ [Hat] with Hz
    · isplitr; · iapply (recs_inv m K (c, .inr (.inr s))); iexact HR
      iexact Hat
    iapply (store iprop(recs m K ∗ (∃ W, owes (c : Thread nD τ) 0 W) ∗ (iprop(semVal (recvCell c s) 0 ∗ rSlot c s) -∗ upTo (s.val + 1) (Rfin c) (Rtodo c)) ∗ semVal (recvCell c s) 0 ∗ R) (by
      iintro ⟨HX, Hs, HR, HO, HU, Hz, Hr⟩
      iapply hk
      isplitr [Hr]
      · isplitl [HR]; · iexact HR
        isplitl [HO]; · iexact HO
        isplitr [HX]
        · iapply HU
          isplitl [Hz]; · iexact Hz
          unfold rSlot; iexists _; iexact Hs
        iexact HX
      iexact Hr))
    unfold rGot
    isplitl [Hp]; · iexact Hp
    isplitl [HX]; · iexact HX
    isplitr; · iexact HR
    isplitl [HO]; · iexists _; iexact HO
    isplitl [HU]; · iexact HU
    isplitl [Hz]; · iexact Hz
    iexact Hr
  · rw [dif_neg h]
    have hsc : s = c := by_contra fun e => h (hc.mpr e)
    subst hsc
    refine wp_of_fupd frame _ _ (P' := iprop(recvState m K s M (s.val + 1) ∗ R)) ?_ hk
    unfold recvState
    iintro ⟨⟨#HR, HO, HU, HX⟩, Hr⟩
    ihave HU := (upTo_step (Rfin s) (Rtodo s) s) $$ HU
    unfold Rtodo Rfin
    rw [if_pos rfl, if_pos rfl]
    icases HU with ⟨⟨Hat, -⟩, HU⟩
    imod (Rounds.cell_close EX (sched m) (Set.mem_univ (K (s, .inr (.inr s)))) (fun h => h) (R := 0) (duties_recv_self m s)) $$ [Hat] with Hz
    · isplitr; · iapply (recs_inv m K (s, .inr (.inr s))); iexact HR
      iexact Hat
    imodintro
    isplitr [Hr]
    · isplitr; · iexact HR
      isplitl [HO]; · iexact HO
      isplitr [HX]
      · iapply HU
        isplitl [Hz]; · iexact Hz
        iempintro
      unfold rowsHeld
      icases HX with ⟨%X, %hX, HX⟩
      iexists X; isplitr
      · ipureintro
        intro t ht
        refine hX t ?_
        rcases ht with e | e
        · exact .inl e
        · by_cases e' : t = s
          · exact .inl e'
          · exact .inr (by have : t.val ≠ s.val := fun q => e' (Fin.ext q); omega)
      iexact HX
    iexact Hr

/-- What a device holds once the copies to the first `k` devices have been waited to depart. -/
def departState (c : Dev nD) (k : ℕ) : sProp 𝕄 := iprop(recs m K ∗ owing c 0 ∗ upTo k (Sfin c) (Ssent c))

/-- The piece of the copy to device `j` at the last grid point: it is waited to have departed. -/
theorem run_depart (c j : Dev nD) {R : sProp 𝕄} {α : Type} {Q : α → sProp 𝕄}
    {cond : BitVec 1} (hc : cond = 1#1 ↔ j ≠ c)
    {hs : cond = 1#1 → (slotM rBuf j).view.WordExact} {hd : cond = 1#1 → (slotM sBuf j).view.WordExact}
    {k : PUnit → Prog (TpuEff nD τ sig (Elt F) Λ₀ .tc) α}
    (hk : iprop(departState m K c (j.val + 1) ∗ R) ⊢ run c (k ⟨⟩) Q) :
    iprop(departState m K c j.val ∗ R) ⊢ run c
      (if h : cond = 1#1 then Prog.lift (.waitDma2 (sendS j) (slotM rBuf j) (slotM sBuf j) (hs h) (hd h)) >>= k else k ⟨⟩) Q := by
  by_cases h : cond = 1#1
  · rw [dif_pos h]
    have hj := hc.mp h
    simp only [Prog.lift, Prog.bind_op, Prog.bind_ret]
    unfold departState owing at hk ⊢
    iintro ⟨⟨#HR, ⟨%W, HO⟩, HU⟩, Hr⟩
    ihave HU := (upTo_step (Sfin c) (Ssent c) j) $$ HU
    unfold Ssent Sfin
    rw [if_neg hj, if_neg hj]
    icases HU with ⟨⟨Hat, Hc⟩, HU⟩
    iapply (Rounds.wp_wait_rest_token 𝒱₀ EX (sched m) (c : Thread nD τ) none (κ := K (c, .inr (.inl j)))
        (wpE_waitDma2_eq 𝒱₀ (c : Thread nD τ) none Set.univ) (Set.mem_univ _) () (O := 0) (W := W) (R := 0) (m := 0) (T := ∅)
        (by rw [Nat.zero_add, expect_send m c j hj])) $$ [Hc HO Hat]
    · isplitr; · iapply (recs_inv m K (c, .inr (.inl j))); iexact HR
      isplitl [Hc]; · iexact Hc
      isplitl [HO]; · iexact HO
      isplitr; · rw [MayWait_zero]; iempintro
      iexact Hat
    iintro ⟨HO, Hat, -, Hpay⟩
    ihave Hp := (Entails.of_eq (rest_send m c j hj)) $$ Hpay
    imod (Rounds.cell_close EX (sched m) (Set.mem_univ (K (c, .inr (.inl j)))) (fun h => h) (R := 0 + 1) (duties_later m (sendCell c j))) $$ [Hat] with Hz
    · isplitr; · iapply (recs_inv m K (c, .inr (.inl j))); iexact HR
      iexact Hat
    iapply hk
    isplitr [Hr]
    · isplitr; · iexact HR
      isplitl [HO]; · iexists _; iexact HO
      iapply HU
      isplitl [Hz]; · iexact Hz
      isplitl [Hp]; · iexact Hp
      iempintro
    iexact Hr
  · rw [dif_neg h]
    have hj : j = c := by_contra fun e => h (hc.mpr e)
    subst hj
    refine wp_of_fupd frame _ _ (P' := iprop(departState m K j (j.val + 1) ∗ R)) ?_ hk
    unfold departState
    iintro ⟨⟨#HR, HO, HU⟩, Hr⟩
    ihave HU := (upTo_step (Sfin j) (Ssent j) j) $$ HU
    unfold Ssent Sfin
    rw [if_pos rfl, if_pos rfl]
    icases HU with ⟨⟨Hat, Hs, Hd⟩, HU⟩
    imod (Rounds.cell_close EX (sched m) (Set.mem_univ (K (j, .inr (.inl j)))) (fun h => h) (R := 0) (duties_send_self m j)) $$ [Hat] with Hz
    · isplitr; · iapply (recs_inv m K (j, .inr (.inl j))); iexact HR
      iexact Hat
    imodintro
    isplitr [Hr]
    · isplitr; · iexact HR
      isplitl [HO]; · iexact HO
      iapply HU
      isplitl [Hz]; · iexact Hz
      isplitl [Hs]; · iexact Hs
      iexact Hd
    iexact Hr

end Cert.Ex

end
-- ==== Proof.Body.lean ====
/-
The kernel's body at a symbolic device and grid point.
-/
module

public import proofs.«01_k».proof.Proof.Waits

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The conditions in terms of the devices -/

/-- The comparison of the device's own number with `t`. -/
theorem ne_word (c t : Dev nD) : Scalar.cmpi .ne (Scalar.extui (Scalar.cmpi .ne (Scalar.remsi (Scalar.divsi (Dev.word c) 1#32) 16#32)
    (BitVec.ofNat 32 t.val))) 0#32 = 1#1 ↔ t ≠ c := by revert c t; decide +kernel

/-- The comparisons of the grid point's number. -/
theorem cond1_iff : ∀ i : grid0.Coords, k0_cond1 i = 1#1 ↔ (i 0).val = 0 := by decide +kernel
theorem cond2_iff : ∀ (i : grid0.Coords) (c : Dev nD), k0_cond2 i c = 1#1 ↔ (i 0).val = c.val := by decide +kernel
theorem cond3_iff : ∀ (i : grid0.Coords) (c : Dev nD), k0_cond3 i c = 1#1 ↔ (i 0).val ≠ c.val := by decide +kernel
theorem cond4_iff : ∀ i : grid0.Coords, k0_cond4 i = 1#1 ↔ (i 0).val = 15 := by decide +kernel

/-- The device of a given number. -/
abbrev dv (t : ℕ) (h : t < 16 := by decide) : Dev nD := ⟨t, h⟩

/-! ## The printed parts -/

section Parts
variable (c : Dev nD) (i : grid0.Coords) (arg1 : Memref sig .tc .vmem S256x4096 .bf16) (harg1 : arg1.IsWhole)
  (arg2 : Memref sig .tc .vmem S4096x512 .bf16) (harg2 : arg2.IsWhole) (M : Memref sig .tc .vmem S4096x512 .f32) (hM : M.IsWhole)

/-- The first eight devices' barrier cells are raised. -/
theorem run_part1 {R : sProp 𝕄} {Q : (Σ' (_ : Sems sig S_) (_ : BitVec 32), BitVec 32) → sProp 𝕄} (h : k0_cond1 i = 1#1)
    (hk : iprop(sigState m K c 8 ∗ R) ⊢ Q ⟨SemArray.scalar (sig.barrier 0 rfl), 8#32, 1#32⟩) :
    iprop(sigState m K c 0 ∗ R) ⊢ run c (k0_part1 (F := F) i arg1 harg1 arg2 harg2 M hM sBuf (Memref.isWhole_whole _) rBuf (Memref.isWhole_whole _)
      cc0_scratch2 cc0_scratch3 h) Q := by
  rw [k0_part1_eq_skeleton]; unfold k0_part1_skel
  refine run_signal m K c (dv 0) (Fin.ext k0_dev1_eq) ?_
  refine run_signal m K c (dv 1) (Fin.ext k0_dev2_eq) ?_
  refine run_signal m K c (dv 2) (Fin.ext k0_dev3_eq) ?_
  refine run_signal m K c (dv 3) (Fin.ext k0_dev4_eq) ?_
  refine run_signal m K c (dv 4) (Fin.ext k0_dev5_eq) ?_
  refine run_signal m K c (dv 5) (Fin.ext k0_dev6_eq) ?_
  refine run_signal m K c (dv 6) (Fin.ext k0_dev7_eq) ?_
  refine run_signal m K c (dv 7) (Fin.ext k0_dev8_eq) ?_
  exact hk.trans (le_wp_ret _ _ _ _ _)

set_option maxHeartbeats 2000000 in
/-- The first ten devices' copies are waited for. -/
theorem run_part2 {R : sProp 𝕄} {Q : PUnit → sProp 𝕄} (v2 : BitVec 32) (hk : iprop(recvState m K c M 10 ∗ R) ⊢ Q ⟨⟩) :
    iprop(recvState m K c M 0 ∗ R) ⊢ run c (k0_part2 (F := F) i arg1 harg1 arg2 harg2 M hM sBuf (Memref.isWhole_whole _) rBuf (Memref.isWhole_whole _)
      cc0_scratch2 cc0_scratch3 c v2) Q := by
  rw [k0_part2_eq_skeleton]; unfold k0_part2_skel
  refine run_recv m K c (dv 0) (ne_word c (dv 0)) rfl ?_
  refine run_recv m K c (dv 1) (ne_word c (dv 1)) rfl ?_
  refine run_recv m K c (dv 2) (ne_word c (dv 2)) rfl ?_
  refine run_recv m K c (dv 3) (ne_word c (dv 3)) rfl ?_
  refine run_recv m K c (dv 4) (ne_word c (dv 4)) rfl ?_
  refine run_recv m K c (dv 5) (ne_word c (dv 5)) rfl ?_
  refine run_recv m K c (dv 6) (ne_word c (dv 6)) rfl ?_
  refine run_recv m K c (dv 7) (ne_word c (dv 7)) rfl ?_
  refine run_recv m K c (dv 8) (ne_word c (dv 8)) rfl ?_
  refine run_recv m K c (dv 9) (ne_word c (dv 9)) rfl ?_
  exact hk.trans (le_wp_ret _ _ _ _ _)

/-- The device's own number, as the program computes it. -/
abbrev ownWord (c : Dev nD) : BitVec 32 := Scalar.remsi (Scalar.divsi (Dev.word c) 1#32) 16#32

/-- What is held when every copy has arrived and the first `k` have been waited to depart. -/
def lateState (k : ℕ) : sProp 𝕄 :=
  iprop(departState m K c k ∗ (bigSep Finset.univ fun s => Rfin c s) ∗ rowsHeld m c M (fun _ => True))

/-- With every copy arrived, all row blocks are in the result. -/
theorem late_intro {R : sProp 𝕄} : iprop(recvState m K c M 16 ∗ (bigSep Finset.univ fun j => Ssent c j) ∗ R) ⊢ iprop(lateState m K c M 0 ∗ R) := by
  unfold recvState lateState departState
  rw [upTo_all, upTo_zero]
  iintro ⟨⟨#HR, HO, HU, HX⟩, HS, Hr⟩
  isplitr [Hr]
  · isplitl [HO HS]
    · isplitr; · iexact HR
      isplitl [HO]; · iexact HO
      iexact HS
    isplitl [HU]; · iexact HU
    unfold rowsHeld
    icases HX with ⟨%X, %hX, HX⟩
    iexists X; isplitr
    · ipureintro; exact fun s _ => hX s (.inr s.isLt)
    iexact HX
  iexact Hr

set_option maxHeartbeats 2000000 in
/-- The other devices' copies are waited for, then the first four copies sent. -/
theorem run_part3 {R : sProp 𝕄} {Q : PUnit → sProp 𝕄} (hk : iprop(lateState m K c M 4 ∗ R) ⊢ Q ⟨⟩) :
    iprop(recvState m K c M 10 ∗ (bigSep Finset.univ fun j => Ssent c j) ∗ R) ⊢ run c (k0_part3 (F := F) i arg1 harg1 arg2 harg2 M hM
      sBuf (Memref.isWhole_whole _) rBuf (Memref.isWhole_whole _) cc0_scratch2 cc0_scratch3 c (ownWord c)) Q := by
  rw [k0_part3_eq_skeleton]; unfold k0_part3_skel
  refine run_recv m K c (dv 10) (ne_word c (dv 10)) rfl ?_
  refine run_recv m K c (dv 11) (ne_word c (dv 11)) rfl ?_
  refine run_recv m K c (dv 12) (ne_word c (dv 12)) rfl ?_
  refine run_recv m K c (dv 13) (ne_word c (dv 13)) rfl ?_
  refine run_recv m K c (dv 14) (ne_word c (dv 14)) rfl ?_
  refine run_recv m K c (dv 15) (ne_word c (dv 15)) rfl ?_
  refine (late_intro m K c M).trans ?_
  unfold lateState at hk ⊢
  refine sep_assoc.1.trans ?_
  refine run_depart m K c (dv 0) (ne_word c (dv 0)) ?_
  refine run_depart m K c (dv 1) (ne_word c (dv 1)) ?_
  refine run_depart m K c (dv 2) (ne_word c (dv 2)) ?_
  refine run_depart m K c (dv 3) (ne_word c (dv 3)) ?_
  exact (sep_assoc.2.trans hk).trans (le_wp_ret _ _ _ _ _)

set_option maxHeartbeats 2000000 in
/-- Ten more copies are waited to have departed. -/
theorem run_part4 {R : sProp 𝕄} {Q : PUnit → sProp 𝕄} (hk : iprop(lateState m K c M 14 ∗ R) ⊢ Q ⟨⟩) :
    iprop(lateState m K c M 4 ∗ R) ⊢ run c (k0_part4 (F := F) i arg1 harg1 arg2 harg2 M hM
      sBuf (Memref.isWhole_whole _) rBuf (Memref.isWhole_whole _) cc0_scratch2 cc0_scratch3 (ownWord c)) Q := by
  rw [k0_part4_eq_skeleton]; unfold k0_part4_skel
  unfold lateState at hk ⊢
  refine sep_assoc.1.trans ?_
  refine run_depart m K c (dv 4) (ne_word c (dv 4)) ?_
  refine run_depart m K c (dv 5) (ne_word c (dv 5)) ?_
  refine run_depart m K c (dv 6) (ne_word c (dv 6)) ?_
  refine run_depart m K c (dv 7) (ne_word c (dv 7)) ?_
  refine run_depart m K c (dv 8) (ne_word c (dv 8)) ?_
  refine run_depart m K c (dv 9) (ne_word c (dv 9)) ?_
  refine run_depart m K c (dv 10) (ne_word c (dv 10)) ?_
  refine run_depart m K c (dv 11) (ne_word c (dv 11)) ?_
  refine run_depart m K c (dv 12) (ne_word c (dv 12)) ?_
  refine run_depart m K c (dv 13) (ne_word c (dv 13)) ?_
  exact (sep_assoc.2.trans hk).trans (le_wp_ret _ _ _ _ _)

end Parts

end Cert.Ex

end
-- ==== Proof.Point.lean ====
/-
The kernel's body at a symbolic grid point of a symbolic device, from what is held before the point to what is held after it.
-/
module

public import proofs.«01_k».proof.Proof.Body

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ) (K : Dev nD × CI → ℕ)

/-! ## What a device holds before and after each grid point -/

/-- Before the first grid point: nothing of the exchange has happened. -/
def atStart (c : Dev nD) : sProp 𝕄 :=
  iprop(recs m K ∗ upTo 0 (fun _ => iprop(emp)) (Bgive c) ∗ (bigSep Finset.univ fun j => Sinit c j) ∗ (bigSep Finset.univ fun s => Rtodo c s)
    ∗ levAts L lv ∗ cred (tallyAt (barCell c) () 16) ∗ atPos EX (barCell c) 0 ∅ 0)
/-- Past the barrier, with the first `k` devices sent to. -/
def atMid (c : Dev nD) (k : ℕ) : sProp 𝕄 :=
  iprop(recs m K ∗ upTo k (Ssent c) (Stodo c) ∗ (bigSep Finset.univ fun s => Rtodo c s) ∗ semVal (barCell c) 0)
/-- At the end: every cell of the device at zero, and both buffers' slots. -/
def atEnd (c : Dev nD) : sProp 𝕄 :=
  iprop((bigSep Finset.univ fun j => Sfin c j) ∗ (bigSep Finset.univ fun s => Rfin (F := F) c s) ∗ semVal (barCell c) 0)
/-- What is held of the exchange before grid point `k`. -/
def atPoint (c : Dev nD) (k : ℕ) : sProp 𝕄 := if k = 0 then atStart m K c else if k = 16 then atEnd c else atMid m K c k

/-- Two ways on from a test meet again: what follows is proved once. -/
theorem run_if (c : Dev nD) {P P' : sProp 𝕄} {α : Type} {Q : α → sProp 𝕄} {cond : BitVec 1}
    {A : cond = 1#1 → Prog (TpuEff nD τ sig (Elt F) Λ₀ .tc) α} {B : Prog (TpuEff nD τ sig (Elt F) Λ₀ .tc) α}
    (hB : P' ⊢ run c B Q) (hA : ∀ h, (P' ⊢ run c B Q) → (P ⊢ run c (A h) Q)) (hn : ¬ cond = 1#1 → (P ⊢ P')) :
    P ⊢ run c (if h : cond = 1#1 then A h else B) Q := by
  by_cases h : cond = 1#1
  · rw [dif_pos h]; exact hA h hB
  · rw [dif_neg h]; exact (hn h).trans hB

/-- A device's own number is its own. -/
theorem run_device (c : Dev nD) {P : sProp 𝕄} {α : Type} {Q : α → sProp 𝕄} {p : Dev nD → Prog (TpuEff nD τ sig (Elt F) Λ₀ .tc) α}
    (h : P ⊢ run c (p c) Q) : P ⊢ run c (Prog.lift .deviceId >>= p) Q := by
  simp only [Prog.lift, Prog.bind_op, Prog.bind_ret, wp_deviceId]; exact h

/-- A part of a program, then the rest. -/
theorem run_seq (c : Dev nD) {P : sProp 𝕄} {α β : Type} {Q : β → sProp 𝕄} {p : Prog (TpuEff nD τ sig (Elt F) Λ₀ .tc) α}
    {k : α → Prog (TpuEff nD τ sig (Elt F) Λ₀ .tc) β} (h : P ⊢ run c p fun a => run c (k a) Q) : P ⊢ run c (p >>= k) Q := by
  unfold run at h ⊢; rw [wp_bind]; exact h

omit [FloatOps F] in
/-- A whole matrix read through its whole rectangle is itself. -/
theorem all_read {d : Fin 2 → ℕ} {e : EltTy} (h) (X : Vec F ⟨2, d⟩ e) :
    (fun x => X ((Rect.unit (s := ⟨2, d⟩) ![0, 0] d h).emb x)) = X := by
  funext x
  refine congrArg X (funext fun a => Fin.ext ?_)
  show (![0, 0] : Fin 2 → ℕ) a + 1 * (x a).val = (x a).val
  fin_cases a <;> simp

set_option maxHeartbeats 2000000 in
/-- The body at grid point `j` on device `c`. -/
theorem run_body (c j : Dev nD) (i : grid0.Coords) (hi : (i 0).val = j.val) (arg1 : Memref sig .tc .vmem S256x4096 .bf16) (harg1 : arg1.IsWhole)
    (arg2 : Memref sig .tc .vmem S4096x512 .bf16) (harg2 : arg2.IsWhole) (M : Memref sig .tc .vmem S4096x512 .f32) (hM : M.IsWhole)
    {Q : PUnit → sProp 𝕄}
    (hQ : iprop(atPoint m K c (j.val + 1) ∗ owing c (oSend (j.val + 1) c) ∗ owns (c : Thread nD τ) arg1 fullShare (xb m c)
      ∗ owns (c : Thread nD τ) arg2 fullShare (wb m c j) ∗ rowsHeld m c M (fun s => s = c ∧ c.val ≤ j.val ∨ j.val = 15)) ⊢ Q ⟨⟩) :
    iprop(atPoint m K c j.val ∗ owing c (oAt j.val c) ∗ owns (c : Thread nD τ) arg1 fullShare (xb m c)
      ∗ owns (c : Thread nD τ) arg2 fullShare (wb m c j) ∗ rowsHeld m c M (fun s => s = c ∧ c.val < j.val))
    ⊢ run c (cc0_body (F := F) i arg1 harg1 arg2 harg2 M hM sBuf (Memref.isWhole_whole _) rBuf (Memref.isWhole_whole _) cc0_scratch2 cc0_scratch3) Q := by
  rw [cc0_body_eq_skeleton]; unfold cc0_body_skel
  refine run_device c ?_
  -- the barrier
  refine run_if c (P' := iprop(atMid m K c j.val ∗ owing c (oSend j.val c) ∗ owns (c : Thread nD τ) arg1 fullShare (xb m c)
      ∗ owns (c : Thread nD τ) arg2 fullShare (wb m c j) ∗ rowsHeld m c M (fun s => s = c ∧ c.val < j.val))) ?_ (fun h hB => ?_) (fun h => ?_)
  rotate_left
  · have hj : j = 0 := Fin.ext (hi.symm.trans ((cond1_iff i).mp h))
    subst hj
    refine BIBase.Entails.trans ?_ (run_seq c (run_part1 m K c i arg1 harg1 arg2 harg2 M hM
      (R := iprop((bigSep Finset.univ fun j => Sinit c j) ∗ (bigSep Finset.univ fun s => Rtodo c s)
        ∗ levAts L lv ∗ cred (tallyAt (barCell c) () 16) ∗ atPos EX (barCell c) 0 ∅ 0 ∗ owns (c : Thread nD τ) arg1 fullShare (xb m c)
        ∗ owns (c : Thread nD τ) arg2 fullShare (wb m c 0) ∗ rowsHeld m c M (fun s => s = c ∧ c.val < 0))) h ?_))
    · show iprop(atPoint m K c 0 ∗ owing c (oAt 0 c) ∗ _) ⊢ _
      unfold atPoint atStart sigState
      rw [if_pos rfl, oAt_zero]
      iintro ⟨⟨HR, HB, HS, HT, Hl, Hc, Hat⟩, HO, H1, H2, HX⟩
      isplitl [HR HB HO]
      · isplitl [HR]; · iexact HR
        isplitl [HO]; · iexact HO
        iexact HB
      isplitl [HS]; · iexact HS
      isplitl [HT]; · iexact HT
      isplitl [Hl]; · iexact Hl
      isplitl [Hc]; · iexact Hc
      isplitl [Hat]; · iexact Hat
      isplitl [H1]; · iexact H1
      isplitl [H2]; · iexact H2
      iexact HX
    refine run_signal m K c (dv 8) (Fin.ext k0_dev9_eq) ?_
    refine run_signal m K c (dv 9) (Fin.ext k0_dev10_eq) ?_
    refine run_signal m K c (dv 10) (Fin.ext k0_dev11_eq) ?_
    refine run_signal m K c (dv 11) (Fin.ext k0_dev12_eq) ?_
    refine run_signal m K c (dv 12) (Fin.ext k0_dev13_eq) ?_
    refine run_signal m K c (dv 13) (Fin.ext k0_dev14_eq) ?_
    refine run_signal m K c (dv 14) (Fin.ext k0_dev15_eq) ?_
    refine run_signal m K c (dv 15) (Fin.ext k0_dev16_eq) ?_
    have wait := run_barrier m K c (R := iprop((bigSep Finset.univ fun j => Sinit c j) ∗ (bigSep Finset.univ fun s => Rtodo c s)
        ∗ owns (c : Thread nD τ) arg1 fullShare (xb m c)
        ∗ owns (c : Thread nD τ) arg2 fullShare (wb m c 0) ∗ rowsHeld m c M (fun s => s = c ∧ c.val < 0))) (Q := Q)
      (p := fun _ => _) (BIBase.Entails.trans (by
        show _ ⊢ iprop(atMid m K c 0 ∗ owing c (oSend 0 c) ∗ owns (c : Thread nD τ) arg1 fullShare (xb m c)
          ∗ owns (c : Thread nD τ) arg2 fullShare (wb m c 0) ∗ rowsHeld m c M (fun s => s = c ∧ c.val < 0))
        unfold atMid
        rw [upTo_zero]
        iintro ⟨HR, HO, Hd, Hz, HS, HT, H1, H2, HX⟩
        isplitl [HR Hd Hz HS HT]
        · isplitl [HR]; · iexact HR
          isplitl [Hd HS]
          · unfold Stodo
            rw [bigSep_sep']
            isplitl [HS]; · iexact HS
            iexact Hd
          isplitl [HT]; · iexact HT
          iexact Hz
        isplitl [HO]; · iexact HO
        isplitl [H1]; · iexact H1
        isplitl [H2]; · iexact H2
        iexact HX) hB)
    refine BIBase.Entails.trans ?_ wait
    iintro ⟨Hs, HS, HT, Hl, Hc, Hat, Hr⟩
    isplitl [Hs]; · iexact Hs
    isplitl [Hl]; · iexact Hl
    isplitl [Hc]; · iexact Hc
    isplitl [Hat]; · iexact Hat
    isplitl [HS]; · iexact HS
    isplitl [HT]; · iexact HT
    iexact Hr
  · have hj : j.val ≠ 0 := fun e => h ((cond1_iff i).mpr (hi.trans e))
    have hj' : j.val ≠ 16 := fun e => absurd j.isLt (by rw [e]; decide)
    unfold atPoint
    rw [if_neg hj, if_neg hj', oAt_pos hj]
  -- the two blocks
  refine BIBase.Entails.trans ?_ (run_load c (M := arg1) (X := xb m c) (R := iprop(owns (c : Thread nD τ) arg2 fullShare (wb m c j)
    ∗ atMid m K c j.val ∗ owing c (oSend j.val c) ∗ rowsHeld m c M (fun s => s = c ∧ c.val < j.val))) fun v6 hv6 => ?_)
  · iintro ⟨HA, HO, H1, H2, HX⟩
    isplitl [H1]; · iexact H1
    isplitl [H2]; · iexact H2
    isplitl [HA]; · iexact HA
    isplitl [HO]; · iexact HO
    iexact HX
  have e6 : v6 = xb m c := hv6.trans (all_read _ _)
  refine BIBase.Entails.trans ?_ (run_load c (M := arg2) (X := wb m c j) (R := iprop(owns (c : Thread nD τ) arg1 fullShare (xb m c)
    ∗ atMid m K c j.val ∗ owing c (oSend j.val c) ∗ rowsHeld m c M (fun s => s = c ∧ c.val < j.val))) fun v8 hv8 => ?_)
  · iintro ⟨H1, H2, Hr⟩
    isplitl [H2]; · iexact H2
    isplitl [H1]; · iexact H1
    iexact Hr
  have e8 : v8 = wb m c j := hv8.trans (all_read _ _)
  subst e6 e8
  -- the device's own rows
  refine BIBase.Entails.trans ?_ (run_own m c j ((cond2_iff i c).trans ⟨fun e => Fin.ext (hi.symm.trans e), fun e => hi.trans (congrArg _ e)⟩)
    (k0_off1_eq c) rfl (R := iprop(recs m K ∗ owing c (oSend j.val c) ∗ upTo j.val (Ssent c) (Stodo c) ∗ (bigSep Finset.univ fun s => Rtodo c s)
      ∗ semVal (barCell c) 0 ∗ owns (c : Thread nD τ) arg1 fullShare (xb m c) ∗ owns (c : Thread nD τ) arg2 fullShare (wb m c j))) ?_)
  · unfold atMid
    iintro ⟨H2, H1, ⟨HR, HU, HT, Hz⟩, HO, HX⟩
    isplitl [HX]; · iexact HX
    isplitl [HR]; · iexact HR
    isplitl [HO]; · iexact HO
    isplitl [HU]; · iexact HU
    isplitl [HT]; · iexact HT
    isplitl [Hz]; · iexact Hz
    isplitl [H1]; · iexact H1
    iexact H2
  -- the copy to the point's device
  refine BIBase.Entails.trans ?_ (run_send m K c j ((cond3_iff i c).trans ⟨fun h e => h (hi.trans (congrArg _ e)), fun h e => h (Fin.ext (hi.symm.trans e))⟩)
    ((k0_off2_eq i).trans (by rw [hi])) ((k0_off3_eq i).trans (by rw [hi])) (k0_off4_eq c) (k0_off5_eq c) ((k0_off6_eq i).trans (by rw [hi]))
    ((k0_dev17_eq i).trans hi) rfl (R := iprop((Ssent c j -∗ upTo (j.val + 1) (Ssent c) (Stodo c)) ∗ (bigSep Finset.univ fun s => Rtodo c s)
      ∗ semVal (barCell c) 0 ∗ owns (c : Thread nD τ) arg1 fullShare (xb m c) ∗ owns (c : Thread nD τ) arg2 fullShare (wb m c j)
      ∗ rowsHeld m c M (fun s => s = c ∧ c.val ≤ j.val))) ?_)
  · iintro ⟨HX, HR, HO, HU, HT, Hz, H1, H2⟩
    ihave HU := (upTo_step (Ssent c) (Stodo c) j) $$ HU
    icases HU with ⟨Hs, HU⟩
    isplitl [HR]; · iexact HR
    isplitl [HO]; · iexact HO
    isplitl [Hs]; · iexact Hs
    isplitl [HU]; · iexact HU
    isplitl [HT]; · iexact HT
    isplitl [Hz]; · iexact Hz
    isplitl [H1]; · iexact H1
    isplitl [H2]; · iexact H2
    iexact HX
  refine BIBase.Entails.trans (Q := iprop(atMid m K c (j.val + 1) ∗ owing c (oSend (j.val + 1) c) ∗ owns (c : Thread nD τ) arg1 fullShare (xb m c)
    ∗ owns (c : Thread nD τ) arg2 fullShare (wb m c j) ∗ rowsHeld m c M (fun s => s = c ∧ c.val ≤ j.val))) ?_ ?_
  · unfold atMid
    iintro ⟨HR, HO, Hs, HU, HT, Hz, H1, H2, HX⟩
    isplitl [HR HU Hs HT Hz]
    · isplitl [HR]; · iexact HR
      isplitl [HU Hs]; · iapply HU; iexact Hs
      isplitl [HT]; · iexact HT
      iexact Hz
    isplitl [HO]; · iexact HO
    isplitl [H1]; · iexact H1
    isplitl [H2]; · iexact H2
    iexact HX
  -- the waits of the last grid point
  by_cases h4 : k0_cond4 i = 1#1
  · rw [dif_pos h4]
    have hj : j = dv 15 := Fin.ext (hi.symm.trans ((cond4_iff i).mp h4))
    subst hj
    refine BIBase.Entails.trans ?_ (run_seq c (run_part2 m K c i arg1 harg1 arg2 harg2 M hM (R := iprop((bigSep Finset.univ fun j => Ssent c j)
      ∗ semVal (barCell c) 0 ∗ owns (c : Thread nD τ) arg1 fullShare (xb m c) ∗ owns (c : Thread nD τ) arg2 fullShare (wb m c (dv 15)))) _ ?_))
    · unfold atMid recvState
      show iprop((_ ∗ upTo 16 _ _ ∗ _ ∗ _) ∗ owing c (oSend 16 c) ∗ _) ⊢ _
      rw [upTo_all, upTo_zero, oSend_end]
      unfold rowsHeld
      iintro ⟨⟨HR, HU, HT, Hz⟩, HO, H1, H2, ⟨%X, %hX, HX⟩⟩
      isplitl [HR HO HT HX]
      · isplitl [HR]; · iexact HR
        isplitl [HO]; · iexact HO
        isplitl [HT]; · iexact HT
        iexists X; isplitr
        · ipureintro; exact fun s hs => hX s (hs.elim (fun e => ⟨e, Nat.lt_succ_iff.mp c.isLt⟩) (fun e => absurd e (Nat.not_lt_zero _)))
        iexact HX
      isplitl [HU]; · iexact HU
      isplitl [Hz]; · iexact Hz
      isplitl [H1]; · iexact H1
      iexact H2
    refine run_seq c (run_part3 m K c i arg1 harg1 arg2 harg2 M hM ?_)
    refine run_seq c (run_part4 m K c i arg1 harg1 arg2 harg2 M hM ?_)
    unfold lateState
    refine sep_assoc.1.trans ?_
    refine run_depart m K c (dv 14) (ne_word c (dv 14)) ?_
    refine run_depart m K c (dv 15) (ne_word c (dv 15)) ?_
    refine BIBase.Entails.trans (BIBase.Entails.trans ?_ hQ) (le_wp_ret _ _ _ _ _)
    unfold atPoint departState
    show iprop((_ ∗ _ ∗ upTo 16 _ _) ∗ _) ⊢ iprop(_ ∗ owing c (oSend 16 c) ∗ _)
    rw [if_neg (Nat.succ_ne_zero _), if_pos rfl, upTo_all, oSend_end]
    unfold atEnd rowsHeld
    iintro ⟨⟨-, HO, HS⟩, ⟨HT, ⟨%X, %hX, HX⟩⟩, Hz, H1, H2⟩
    isplitl [HS HT Hz]
    · isplitl [HS]; · iexact HS
      isplitl [HT]; · iexact HT
      iexact Hz
    isplitl [HO]; · iexact HO
    isplitl [H1]; · iexact H1
    isplitl [H2]; · iexact H2
    iexists X; isplitr
    · ipureintro; exact fun s _ => hX s trivial
    iexact HX
  · rw [dif_neg h4]
    have hj : j.val ≠ 15 := fun e => h4 ((cond4_iff i).mpr (hi.trans e))
    have hj' : j.val + 1 ≠ 16 := by omega
    refine BIBase.Entails.trans (BIBase.Entails.trans ?_ hQ) (le_wp_ret _ _ _ _ _)
    unfold atPoint
    rw [if_neg (Nat.succ_ne_zero _), if_neg hj']
    unfold rowsHeld
    iintro ⟨HA, HO, H1, H2, ⟨%X, %hX, HX⟩⟩
    isplitl [HA]; · iexact HA
    isplitl [HO]; · iexact HO
    isplitl [H1]; · iexact H1
    isplitl [H2]; · iexact H2
    iexists X; isplitr
    · ipureintro; exact fun s hs => hX s (hs.resolve_right hj)
    iexact HX

end Cert.Ex

end
-- ==== Proof.Region.lean ====
/-
The exchange as a region of the pipeline: what each staging buffer may be left holding at a grid point, what is
held and owed between grid points, and that the body keeps to it.
-/
module

public import proofs.«01_k».proof.Proof.Point
public import proofs.«01_k».proof.Proof.Gen.KernelIdeal.Points

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ)

/-- The device whose columns grid point `t` computes. -/
abbrev colsAt (t : Fin cfg0.N) : Dev nD := Fin.cast N_0 t

theorem coord_val : ∀ t : Fin grid0.N, (grid0.coords t 0).val = t.val := by decide +kernel

/-- What the body may leave in each staging buffer: the inputs as found; in the result's the device's own rows once
    its own columns have been computed, and every row block at the last grid point. -/
def leftAt (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => ∀ s, (s = c ∧ c.val ≤ t.val ∨ t.val = 15) → RowOK m c s X

/-- The exchange's data on device `c`. -/
def rdats (_ : Fin 1) (c : Dev nD) : RDat τ (Elt F) Unit ℕ UU ℕ cfg0 c where
  A w := m ((cfg0.win w).arr.view.loc (c : Thread nD τ))
  after w t Y X := leftAt m c w t Y X
  Φ t := iprop(∃ K, atPoint m K c t.val)
  q _ := fullShare
  owed t := oAt t.val c

/-- The first input's buffer holds the device's rows at every point, -/
theorem found_x (c : Dev nD) (t : Fin cfg0.N) (Y) (h : (rdats m 0 c).Finds 0 t Y) : Y = xb m c := by
  obtain ⟨d, hd⟩ := (rdats m 0 c).finds_in_eq_fetched 0 rfl (fun _ _ _ => rfl) (fun _ _ _ h => h) t Y h
  exact hd.trans rfl
/-- the second's the block of columns of the point, -/
theorem found_w (c : Dev nD) (t : Fin cfg0.N) (Y) (h : (rdats m 0 c).Finds 1 t Y) : Y = wb m c (colsAt t) := by
  obtain ⟨d, hd⟩ := (rdats m 0 c).finds_in_eq_fetched 1 rfl (fun _ _ _ => rfl) (fun _ _ _ h => h) t Y h
  exact hd.trans rfl
/-- and the result's the device's own rows after the point of its own columns. -/
theorem found_y (c : Dev nD) (t : Fin cfg0.N) (Y : Vec F S4096x512 .f32) (h : (rdats m 0 c).Finds 2 t Y) (s : Dev nD) (hs : s = c ∧ c.val < t.val) :
    RowOK m c s Y := by
  have ht : t.val < 16 := N_0 ▸ t.isLt
  rcases ((rdats m 0 c).finds_of_pos (w := 2) (t := t) rfl (by omega) Y).mp h with hf | ⟨Y', -, hY⟩
  · have h' := (flush0_2 _).mp hf
    dsimp only at h'; omega
  · exact hY s (.inl ⟨hs.1, by dsimp only; omega⟩)

/-- The library's obligation on the body. -/
theorem body_obligation (c : Dev nD) : (rdats m 0 c).BodyObligation (defs₀ (F := F)) 𝒱₀ () Set.univ := fun t Y hY => by
  have hx := found_x m c t _ (hY 0)
  have hw := found_w m c t _ (hY 1)
  have hy := found_y m c t _ (hY 2)
  rw [bigSep_W0]
  show _ ⊢ run c (bodyAt0 t) _
  refine BIBase.Entails.trans (Q := iprop(∃ K, (atPoint m K c (colsAt t).val ∗ owing c (oAt (colsAt t).val c) ∗ owns (c : Thread nD τ) (st0_0 t) fullShare (xb m c)
      ∗ owns (c : Thread nD τ) (st0_1 t) fullShare (wb m c (colsAt t)) ∗ rowsHeld m c (st0_2 t) (fun s => s = c ∧ c.val < (colsAt t).val)))) ?_ ?_
  · show iprop((∃ K, atPoint m K c t.val) ∗ _ ∗ _) ⊢ _
    unfold RDat.owesAt Pipeline.owesWithin owing rowsHeld
    iintro ⟨⟨%K, HA⟩, ⟨%W, %hW, HO⟩, H0, H1, H2⟩
    iexists K
    isplitl [HA]; · iexact HA
    isplitl [HO]; · iexists W; iexact HO
    isplitl [H0]; · rw [← hx]; iexact H0
    isplitl [H1]; · rw [← hw]; iexact H1
    iexists (Y 2); isplitr
    · ipureintro; exact hy
    iexact H2
  · iintro ⟨%K, H⟩
    have step := run_body m K c (colsAt t) (grid0.coords t) (coord_val t) (st0_0 t) (hstage0_0 ((cfg0.slots t 0).cast nbuf0_0)) (st0_1 t)
      (hstage0_1 ((cfg0.slots t 1).cast nbuf0_1)) (st0_2 t) (hstage0_2 ((cfg0.slots t 2).cast nbuf0_2))
      (Q := fun _ => iprop((rdats m 0 c).Φ t.succ ∗ (rdats m 0 c).owesAt () t.succ
            ∗ bigSep Finset.univ fun w => iprop(∃ X, ⌜(rdats m 0 c).after w t (Y w) X⌝ ∗ owns (c : Thread nD τ) ((cfg0.win w).stage (cfg0.slots t w)) fullShare X))) (by
        rw [bigSep_W0]
        show _ ⊢ iprop((∃ K, atPoint m K c (t.val + 1)) ∗ _ ∗ _)
        unfold RDat.owesAt Pipeline.owesWithin owing rowsHeld
        iintro ⟨HA, ⟨%W, HO⟩, H0, H1, ⟨%X, %hX, H2⟩⟩
        isplitl [HA]; · iexists K; iexact HA
        isplitl [HO]
        · iexists W
          isplitr; · ipureintro; exact fun _ _ => Or.inl trivial
          rw [show (rdats m 0 c).owed t.succ = oSend ((colsAt t).val + 1) c from oAt_pos (Nat.succ_ne_zero _) c]
          iexact HO
        isplitl [H0]
        · iexists (xb m c); isplitr; · ipureintro; exact hx.symm
          iexact H0
        isplitl [H1]
        · iexists (wb m c (colsAt t)); isplitr; · ipureintro; exact hw.symm
          iexact H1
        iexists X; isplitr; · ipureintro; exact hX
        iexact H2)
    iapply step
    iexact H

end Cert.Ex

end
-- ==== Proof.Slots.lean ====
/-
A device's sending and landing buffers held whole and held slot by slot.
-/
module

public import proofs.«01_k».proof.Proof.Region

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-! ## The slots are the buffer -/

theorem slots_disjoint (s s' : Dev nD) (h : s ≠ s') : Disjoint (slotRect s).set (slotRect s').set := by
  have hv : s.val ≠ s'.val := fun e => h (Fin.ext e)
  refine Rect.unit_disjoint 0 ?_
  show s.val + 1 ≤ s'.val ∨ s'.val + 1 ≤ s.val
  omega

theorem slots_cover : (Finset.univ : Finset (Dev nD)).biUnion (fun s => (slotRect s).set) = Finset.univ := by
  refine Finset.eq_univ_iff_forall.mpr fun i => Finset.mem_biUnion.mpr ⟨i 0, Finset.mem_univ _, Rect.mem_set_unit.mpr fun a => ?_⟩
  have h := (i a).isLt
  fin_cases a
  · exact ⟨le_refl _, Nat.lt_succ_self _⟩
  · exact ⟨Nat.zero_le _, by simpa using h⟩
  · exact ⟨Nat.zero_le _, by simpa using h⟩

theorem set_s (s : Dev nD) : (slotM sBuf s).view.set = (slotRect s).set := (View.set_reshape _ _).trans (View.set_slice_whole _ _)
theorem set_r (s : Dev nD) : (slotM rBuf s).view.set = (slotRect s).set := (View.set_reshape _ _).trans (View.set_slice_whole _ _)

omit [FloatOps F] in
/-- The sending buffer at some contents is its slots at some contents, -/
theorem sSlots_split (c : Dev nD) : iprop(∃ f : Buf (Elt F) ((c : Thread nD τ).loc cc0_scratch0), ((c : Thread nD τ).loc cc0_scratch0) ↦{fullShare} f)
    ⊢ (bigSep Finset.univ fun s => sSlot c s : sProp 𝕄) := by
  iintro ⟨%f, H⟩
  iapply ((Entails.of_eq (Ring.pointsTo_blocks (fun s : Dev nD => (slotRect s).set) slots_disjoint slots_cover f)).trans
    (bigSep_mono fun s _ => show _ ⊢ sSlot c s from by
      unfold sSlot
      rw [← set_s s]
      exact (owns_intro (c : Thread nD τ) (slotM sBuf s) fullShare f).trans (exists_intro _)))
  iexact H
/-- and back. -/
theorem sSlots_join (c : Dev nD) : (bigSep Finset.univ fun s => sSlot c s : sProp 𝕄)
    ⊢ iprop(∃ f : Buf (Elt F) ((c : Thread nD τ).loc cc0_scratch0), ((c : Thread nD τ).loc cc0_scratch0) ↦{fullShare} f) := by
  refine BIBase.Entails.trans (bigSep_mono fun s _ => ?_) (Ring.pointsTo_blocks_join_exists (ℓ := (c : Thread nD τ).loc cc0_scratch0)
    (fun s : Dev nD => (slotRect s).set) slots_disjoint slots_cover (fun _ => Classical.choice inferInstance))
  show sSlot c s ⊢ iprop(∃ f, _)
  unfold sSlot owns
  rw [← set_s s]
  iintro ⟨%X, ⟨%f, %hf, H⟩⟩
  iexists f; iexact H

omit [FloatOps F] in
/-- The landing buffer likewise. -/
theorem rSlots_split (c : Dev nD) : iprop(∃ f : Buf (Elt F) ((c : Thread nD τ).loc cc0_scratch1), ((c : Thread nD τ).loc cc0_scratch1) ↦{fullShare} f)
    ⊢ (bigSep Finset.univ fun s => rSlot c s : sProp 𝕄) := by
  iintro ⟨%f, H⟩
  iapply ((Entails.of_eq (Ring.pointsTo_blocks (fun s : Dev nD => (slotRect s).set) slots_disjoint slots_cover f)).trans
    (bigSep_mono fun s _ => show _ ⊢ rSlot c s from by
      unfold rSlot
      rw [← set_r s]
      exact (owns_intro (c : Thread nD τ) (slotM rBuf s) fullShare f).trans (exists_intro _)))
  iexact H
theorem rSlots_join (c : Dev nD) : (bigSep Finset.univ fun s => rSlot c s : sProp 𝕄)
    ⊢ iprop(∃ f : Buf (Elt F) ((c : Thread nD τ).loc cc0_scratch1), ((c : Thread nD τ).loc cc0_scratch1) ↦{fullShare} f) := by
  refine BIBase.Entails.trans (bigSep_mono fun s _ => ?_) (Ring.pointsTo_blocks_join_exists (ℓ := (c : Thread nD τ).loc cc0_scratch1)
    (fun s : Dev nD => (slotRect s).set) slots_disjoint slots_cover (fun _ => Classical.choice inferInstance))
  show rSlot c s ⊢ iprop(∃ f, _)
  unfold rSlot owns
  rw [← set_r s]
  iintro ⟨%X, ⟨%f, %hf, H⟩⟩
  iexists f; iexact H

end Cert.Ex

end
-- ==== Proof.Start.lean ====
/-
What the launch gives each device of the exchange: its cells' state and positions, the tokens of the duties it
pays, and the credit of what the other devices owe it.
-/
module

public import proofs.«01_k».proof.Proof.Slots

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ)

/-! ## The kernel's own semaphores -/

/-- The send and receive semaphores. -/
abbrev osem (k : Dev nD ⊕ Dev nD) : SemLoc sig := csem (.inr k)

theorem stage_val : ∀ (w : Fin cfg0.W) (s : Fin (cfg0.win w).nbuf), ((cfg0.win w).sem s).val < 4 := by decide

theorem ownSemFacts : Pipeline.OwnSemFacts cfg0.spec osem where
  isScoped := by rintro (j | j) <;> revert j <;> decide
  inj := fun a b h => Sum.inr.inj (csem_injective h)
  disj := by
    rintro (j | j) w s h
    · have := congrArg role h; rw [role_send, role_stage _ (stage_val w s)] at this; cases this
    · have := congrArg role h; rw [role_recv, role_stage _ (stage_val w s)] at this; cases this

/-! ## The launch element -/

/-- A device's duty tokens as minted: its barrier cell's one for every device, and one for each of its other cells. -/
abbrev tokOf (x : Dev nD × (Dev nD ⊕ (Dev nD ⊕ Dev nD))) : GSem nD τ sig × ℕ × Dev nD := match x.2 with
  | .inl d => (barCell x.1, 0, d)
  | .inr k => (kcell (x.1, .inr k), 0, 0)
theorem tokOf_injective : Function.Injective tokOf := by
  rintro ⟨c, j⟩ ⟨c', j'⟩ h
  have hc : ∀ x, (tokOf x).1 = kcell (x.1, x.2.map (fun _ => ()) id) := by rintro ⟨c, (d | k)⟩ <;> rfl
  have h1 := kcell_injective ((hc _).symm.trans ((congrArg Prod.fst h).trans (hc _)))
  have h2 : c = c' := congrArg Prod.fst h1
  have h3 := congrArg Prod.snd h1
  subst h2
  rcases j with d | k <;> rcases j' with d' | k'
  · have : d = d' := congrArg (fun x => x.2.2) h
    rw [this]
  · cases h3
  · cases h3
  · have : k = k' := Sum.inr.inj h3
    rw [this]

def exCells : Finset (GSem nD τ sig) := Finset.univ.map ⟨kcell, kcell_injective⟩
def exToks : Finset (GSem nD τ sig × ℕ × Dev nD) := Finset.univ.map ⟨tokOf, tokOf_injective⟩
def u₀ : UU := (initOf (Pipeline.cells cfgs cellOf_inj) (Pipeline.launchToks cfgs cellOf_inj), initOf exCells exToks)

/-- The duty tokens of device `c`'s own cells, -/
def toks (c : Dev nD) : sProp 𝕄 :=
  iprop((bigSep Finset.univ fun d => dutyTok EX (barCell c) 0 d) ∗ (bigSep Finset.univ fun j => dutyTok EX (sendCell c j) 0 0)
    ∗ (bigSep Finset.univ fun s => dutyTok EX (recvCell c s) 0 0))
/-- and of the duties it pays: a unit of every barrier cell, its own send cells, and its receive cell of every device. -/
def payToks (c : Dev nD) : sProp 𝕄 :=
  iprop((bigSep Finset.univ fun d => dutyTok EX (barCell d) 0 c) ∗ (bigSep Finset.univ fun j => dutyTok EX (sendCell c j) 0 0)
    ∗ (bigSep Finset.univ fun j => dutyTok EX (recvCell j c) 0 0))

omit [FloatOps F] in
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c d : Dev nD => (dutyTok EX (barCell c) 0 d : sProp 𝕄)),
    bigSep_univ_comm (fun c s : Dev nD => (dutyTok EX (recvCell c s) 0 0 : sProp 𝕄))]

/-- A device's positions on its own cells. -/
def poss (c : Dev nD) : sProp 𝕄 := bigSep Finset.univ fun k : CI => atPos EX (kcell (c, k)) 0 ∅ 0

/-- What the launch element deals device `c`. -/
def G (c : Dev nD) : sProp 𝕄 :=
  iprop((bigSep Finset.univ fun k : CI => roundState EX (sched m) (kcell (c, k)) 0)
    ∗ poss c ∗ (bigSep Finset.univ fun k : CI => reached EX (kcell (c, k)) 0) ∗ toks c)
/-- What is made of it once every device's cells are set up. -/
def G' (c : Dev nD) : sProp 𝕄 := iprop(∃ K, recs m K ∗ poss c ∗ payToks c)

theorem fund_ex : BI.own (EX (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund EX (sched m) exCells exToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G poss; rw [bigSep_sep', bigSep_sep', bigSep_sep']
  isplitl [Hst']; · iexact Hst'
  isplitl [Hat']; · iexact Hat'
  isplitl [Hr']; · iexact Hr'
  iexact Htok'

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun s => semVal (recvCell c s) 0) := by
  unfold Pipeline.ownSems0; rw [bigSep_univ_sum]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_univ_sum, Finset.univ_unique, bigSep_singleton]
  unfold Pipeline.ownSems0
  show _ ⊢ iprop(semVal (barCell c) 0 ∗ _)
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv EX (sched m) κ (kcell (c, k))))
          ∗ poss c ∗ (bigSep Finset.univ fun k : CI => reached EX (kcell (c, k)) 0) ∗ toks c) := by
  unfold G
  iintro ⟨Hos, Hus, Hst, Hrest⟩
  ihave Hv := (sems0 (F := F) c) $$ [Hos Hus]
  · isplitl [Hos] <;> iassumption
  imod (show iprop((bigSep Finset.univ fun k : CI => semVal (kcell (c, k)) 0) ∗ bigSep Finset.univ fun k : CI => roundState EX (sched m) (kcell (c, k)) 0)
      ⊢ (|={Set.univ}=> bigSep Finset.univ fun k : CI => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun k : CI => iprop(∃ κ : ℕ, cellInv EX (sched m) κ (kcell (c, k))))
          ∗ poss c ∗ (bigSep Finset.univ fun k : CI => reached EX (kcell (c, k)) 0) ∗ toks c) : sProp 𝕄)
      ⊢ bigSep Finset.univ (G' m) := by
  rw [bigSep_sep', bigSep_sep', bigSep_sep', ← bigSep_univ_prod (fun ck : Dev nD × CI => iprop(∃ κ : ℕ, cellInv EX (sched m) κ (kcell ck))),
    ← bigSep_univ_prod (fun ck : Dev nD × CI => (reached EX (kcell ck) 0 : sProp 𝕄))]
  iintro ⟨HI, Hat, HR, Htok⟩
  ihave HK := (BI.bigSep_exists_pi Finset.univ (fun (ck : Dev nD × CI) (κ : ℕ) => (cellInv EX (sched m) κ (kcell ck) : sProp 𝕄))) $$ HI
  icases HK with ⟨%K, HI⟩
  ihave Htk := (toks_dealt (F := F)) $$ Htok
  ihave Hrec : (recs m K) $$ [HI HR]
  · unfold recs; isplitl [HI] <;> iassumption
  ihave Hrecs := (BI.bigSep_of_persistent (Finset.univ : Finset (Dev nD)) (recs m K)) $$ Hrec
  iapply (show iprop((bigSep Finset.univ fun _ : Dev nD => recs m K) ∗ (bigSep Finset.univ fun c : Dev nD => poss c) ∗ bigSep Finset.univ fun c : Dev nD => payToks c)
      ⊢ bigSep Finset.univ (G' m) from by
    rw [← bigSep_sep', ← bigSep_sep']
    refine bigSep_mono fun c _ => ?_
    show iprop(recs m K ∗ poss c ∗ payToks c) ⊢ G' m c
    unfold G'; iintro H; iexists K; iexact H)
  isplitl [Hrecs]; · iexact Hrecs
  isplitl [Hat]; · iexact Hat
  iexact Htk

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed to a device -/

theorem oBar_at (c : Dev nD) : oBar 0 (barCell c) () = 1 := by
  unfold oBar
  rw [Finset.sum_apply, Finsupp.finset_sum_apply, Finset.sum_eq_single c]
  · rw [if_pos (Nat.zero_le _), tallyAt_apply, if_pos ⟨rfl, rfl⟩]
  · intro d _ hd
    rw [if_pos (Nat.zero_le _), tallyAt_apply, if_neg fun h => hd (barCell_inj h.1).symm]
  · exact fun h => absurd (Finset.mem_univ c) h
theorem oBar_recv (c s : Dev nD) : oBar 0 (recvCell c s) () = 0 := by
  by_contra h0
  obtain ⟨d, h⟩ := oBar_pos (Nat.pos_of_ne_zero h0)
  cases congrArg (fun g : GSem nD τ sig => g.2) h
theorem oSend_bar (d c : Dev nD) : oSend 0 d (barCell c) () = 0 := by
  by_contra h0
  obtain ⟨j, h⟩ := oSend_pos (Nat.pos_of_ne_zero h0)
  cases congrArg (fun g : GSem nD τ sig => g.2) h
theorem oSend_recv (d c s : Dev nD) (hs : s ≠ c) : oSend 0 d (recvCell c s) () = if d = s then NB else 0 := by
  unfold oSend
  rw [Finset.sum_apply, Finsupp.finset_sum_apply, Finset.sum_eq_single c]
  · by_cases h : d = s
    · subst h; rw [if_pos ⟨Nat.zero_le _, hs.symm⟩, tallyAt_apply, if_pos ⟨rfl, rfl⟩, if_pos rfl]
    · rw [if_neg h]
      split
      · rw [tallyAt_apply, if_neg fun h' => h (recvCell_inj h'.1).2.symm]
      · rfl
  · intro j _ hj
    split
    · rw [tallyAt_apply, if_neg fun h' => hj (recvCell_inj h'.1).1.symm]
    · rfl
  · exact fun h => absurd (Finset.mem_univ c) h

theorem launch_bar (c : Dev nD) :
    tallyOn (barCell c) (launchCredit (Pipeline.owing fun d => oAt 0 d) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => show oAt 0 d (barCell c) () = 1 from by
    rw [oAt_zero, Pi.add_apply, Finsupp.add_apply, oSend_bar, oBar_at], Finset.sum_const, Finset.card_univ, Fintype.card_fin, smul_eq_mul]
  rfl
theorem launch_recv (c s : Dev nD) (hs : s ≠ c) :
    tallyOn (recvCell c s) (launchCredit (Pipeline.owing fun d => oAt 0 d) 0 (recvCell c s)) = (tallyAt (recvCell c s) () NB : CellTallies nD τ sig Unit) := by
  unfold tallyAt; refine congrArg _ (Finsupp.ext fun u => ?_); cases u
  rw [Pipeline.launchCredit_owing, Finsupp.single_eq_same, Finset.sum_congr rfl fun d _ => show oAt 0 d (recvCell c s) () = if d = s then NB else 0 from by
    rw [oAt_zero, Pi.add_apply, Finsupp.add_apply, oSend_recv d c s hs, oBar_recv, Nat.add_zero], Finset.sum_ite_eq' Finset.univ s fun _ => NB, if_pos (Finset.mem_univ _)]

/-- The credit of the copies the other devices send. -/
def recvCreds (c : Dev nD) : sProp 𝕄 := bigSep Finset.univ fun s : Dev nD => if s = c then iprop(emp) else cred (tallyAt (recvCell c s) () NB)

omit [FloatOps F] in
theorem creds (c : Dev nD) :
    (Pipeline.launchCred (fun d => oAt 0 d) c : sProp 𝕄) ⊢ iprop(cred (tallyAt (barCell c) () 16) ∗ recvCreds c) := by
  have hs (s : Dev nD) : (cred (tallyOn (recvCell c s) (launchCredit (Pipeline.owing fun d => oAt 0 d) 0 (recvCell c s))) : sProp 𝕄)
      ⊢ if s = c then iprop(emp) else cred (tallyAt (recvCell c s) () NB) := by
    by_cases h : s = c
    · rw [if_pos h]; iintro -; iempintro
    · rw [if_neg h, launch_recv c s h]
  unfold Pipeline.launchCred
  refine BIBase.Entails.trans (bigSep_subset (Finset.subset_univ (Finset.univ.map ⟨csem, csem_injective⟩))) ?_
  rw [bigSep_map, bigSep_univ_sum, bigSep_univ_sum, Finset.univ_unique, bigSep_singleton]
  show iprop(cred (tallyOn (barCell c) (launchCredit _ 0 (barCell c))) ∗ _ ∗ bigSep Finset.univ fun s : Dev nD => cred (tallyOn (recvCell c s) (launchCredit _ 0 (recvCell c s)))) ⊢ _
  rw [launch_bar]
  unfold recvCreds
  iintro ⟨H, -, Hr⟩
  isplitl [H]; · iexact H
  iapply (show (bigSep Finset.univ fun s : Dev nD => cred (tallyOn (recvCell c s) (launchCredit (Pipeline.owing fun d => oAt 0 d) 0 (recvCell c s))) : sProp 𝕄)
      ⊢ bigSep Finset.univ fun s : Dev nD => if s = c then iprop(emp) else cred (tallyAt (recvCell c s) () NB) from bigSep_mono fun s _ => hs s)
  iexact Hr

end Cert.Ex

end
-- ==== Proof.Run.lean ====
/-
The whole run: from any memory with zero counters every execution ends, with the arrays as the exchange leaves
them and every semaphore counter at zero.
-/
module

public import proofs.«01_k».proof.Proof.Start
public import Idealize.ShloMosaic.Lib.Pipeline.CollectiveSegs

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Into the first grid point -/

/-- What a device's kernel starts with, its buffers apart. -/
def start (c : Dev nD) : sProp 𝕄 := iprop(G' m c ∗ levAts L lv ∗ cred (tallyAt (barCell c) () 16) ∗ recvCreds c)

theorem start_intro (c : Dev nD) :
    iprop(Pipeline.unscopedRestP Pipeline.Prefetch.none cfg0.spec c (fun b => m ((c : Thread nD τ).loc b)) ∗ levAts L lv
        ∗ Pipeline.launchCred (fun d => oAt 0 d) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

omit [FloatOps F] in
theorem poss_eq (c : Dev nD) : (poss c : sProp 𝕄) = iprop(atPos EX (barCell c) 0 ∅ 0 ∗ (bigSep Finset.univ fun j => atPos EX (sendCell c j) 0 ∅ 0)
    ∗ bigSep Finset.univ fun s => atPos EX (recvCell c s) 0 ∅ 0) := by
  unfold poss; rw [bigSep_univ_sum, bigSep_univ_sum, Finset.univ_unique, bigSep_singleton]; rfl

theorem phi_first (c : Dev nD) :
    iprop(start m c ∗ Pipeline.prefHeld Pipeline.Prefetch.none c (fun _ => fullShare.right) (fun k => k.elim0) ∗ Pipeline.scopedRest cfg0.spec c)
      ⊢ (rdats m 0 c).Φ 0 := by
  show _ ⊢ iprop(∃ K, atPoint m K c 0)
  rw [show (Pipeline.scopedRest cfg0.spec c : sProp 𝕄) = _ from scopedRest0_eq c]
  unfold start G' payToks recvCreds
  rw [poss_eq]
  iintro ⟨⟨⟨%K, Hrec, ⟨HpB, HpS, HpR⟩, HtB, HtS, HtR⟩, Hlev, Hcr, Hcrs⟩, -, Hs, Hr⟩
  iexists K
  ihave Hs' := (sSlots_split (F := F) c) $$ Hs
  ihave Hr' := (rSlots_split (F := F) c) $$ Hr
  unfold atPoint; rw [if_pos rfl]
  unfold atStart; rw [upTo_zero]
  unfold Bgive Sinit Rtodo
  rw [bigSep_sep', bigSep_sep', bigSep_sep', bigSep_sep', bigSep_sep']
  isplitl [Hrec]; · iexact Hrec
  isplitl [Hr' HtB]
  · isplitl [Hr'] <;> iassumption
  isplitl [Hs' HpS HtS HtR]
  · isplitl [Hs']; · iexact Hs'
    isplitl [HpS]; · iexact HpS
    isplitl [HtS]; · iexact HtS
    iexact HtR
  isplitl [HpR Hcrs]
  · isplitl [HpR] <;> iassumption
  isplitl [Hlev]; · iexact Hlev
  isplitl [Hcr]; · iexact Hcr
  iexact HpB

/-! ## Out of the last -/

omit [FloatOps F] in
/-- A device's own landing slot comes back with its own columns' copy, the others with the copies that landed there. -/
theorem slots_back (c : Dev nD) : iprop((bigSep Finset.univ fun j : Dev nD => if j = c then rSlot c c else iprop(emp))
    ∗ bigSep Finset.univ fun s : Dev nD => if s = c then iprop(emp) else rSlot c s) ⊢ (bigSep Finset.univ fun s => rSlot c s : sProp 𝕄) := by
  rw [← bigSep_sep']
  refine bigSep_mono fun s _ => ?_
  show iprop((if s = c then rSlot c c else iprop(emp)) ∗ if s = c then iprop(emp) else rSlot c s) ⊢ rSlot c s
  by_cases h : s = c
  · subst h; rw [if_pos rfl, if_pos rfl]; iintro ⟨H, -⟩; iexact H
  · rw [if_neg h, if_neg h]; iintro ⟨-, H⟩; iexact H

theorem phi_last (c : Dev nD) :
    (rdats m 0 c).Φ (Fin.last cfg0.N) ⊢ iprop(unscopedSems0 c ∗ Pipeline.ownSems0 osem c ∗ Pipeline.scopedRest cfg0.spec c) := by
  have hN : (Fin.last cfg0.N).val = 16 := N_0
  show iprop(∃ K, atPoint m K c (Fin.last cfg0.N).val) ⊢ _
  rw [hN, show (Pipeline.scopedRest cfg0.spec c : sProp 𝕄) = _ from scopedRest0_eq c, ownSems0_eq, unscopedSems0_eq]
  unfold atPoint
  simp only [if_neg (show ¬ (16 : ℕ) = 0 by decide), if_pos]
  unfold atEnd Sfin Rfin
  rw [bigSep_sep', bigSep_sep', bigSep_sep']
  iintro ⟨%K, ⟨HvS, HsS, HrC⟩, ⟨HvR, HrO⟩, HvB⟩
  ihave Hr := (slots_back (F := F) c) $$ [HrC HrO]
  · isplitl [HrC] <;> iassumption
  ihave Hr' := (rSlots_join (F := F) c) $$ Hr
  ihave Hs' := (sSlots_join (F := F) c) $$ HsS
  isplitl [HvB]; · iexact HvB
  isplitl [HvS HvR]
  · isplitl [HvS] <;> iassumption
  isplitl [Hs'] <;> iassumption

/-! ## The run -/

theorem share_eq (c : Dev nD) (w : Fin cfg0.W) : (rdats m 0 c).share w = fullShare := by unfold RDat.share; split <;> rfl

theorem waits (c : Dev nD) : (levAts L lv : sProp 𝕄) ⊢ RDat.cellsWaits cfgs (rdats m) () 0 c :=
  RDat.cellsWaits_intro cfgs (rdats m) () 0 c fun w s t => mayWait_stage c _ (stage_val w s) t.val

set_option maxRecDepth 8000 in
/-- For any float values, from any memory with zero counters, every execution of the sixteen devices' kernels ends; at
    the end each window's array is as the pipeline leaves it, and every semaphore counter is zero. -/
theorem run_all : θ_run defs (onTc (τ := τ) (main (F := F))) ⟨m, fun _ => 0, ρ⟩
    (fun r => (∀ c : Dev nD, ∀ w : Fin cfg0.W, (rdats m 0 c).ArrAt w cfg0.N (r.2.mem ((cfg0.win w).arr.view.loc (c : Thread nD τ)))) ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => oAt 0 d) (howed₀ := fun _ => rfl)
    (howedN := fun c => (congrArg (fun k => oAt k c) (show (Fin.last cfg0.N).val = 16 from N_0)).trans ((oAt_pos (by decide) c).trans (oSend_end c)))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ex

end
-- ==== Proof.Result.lean ====
/-
What the run leaves: the arguments as they were, and on each device the result's sixteen row blocks, its own as
computed and every other as received.
-/
module

public import proofs.«01_k».proof.Proof.Run
public import Idealize.ShloMosaic.Lib.Pipeline.ArrRel

@[expose] public section

noncomputable section

namespace Cert.Ex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-- The one write-back of the result is at the last grid point. -/
theorem whole_y : (cfg0.win 2).WholeAt t0_15 := by decide +kernel

/-- For any float values, from any memory with zero counters: every execution ends, with the arguments unchanged, row
    block `s` of device `c`'s result at what device `s` computes of `c`'s columns, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ ∀ s, RowOK m c s (r.2.mem ((c : Thread nD τ).loc main_v1)))
      ∧ r.2.sem = fun _ => 0) :=
  (θ_run defs _ _).mono (fun r h => ⟨fun c => by
    have h0 := h.1 c 0
    have h1 := h.1 c 1
    rw [(rdats m 0 c).ArrAt_in 0 rfl] at h0
    rw [(rdats m 0 c).ArrAt_in 1 rfl] at h1
    obtain ⟨X, ⟨Y, -, hX⟩, he⟩ := RDat.ArrAt.emb_eq_of_wholeAt (h.1 c 2) whole_y
    exact ⟨h0, h1, fun s x => (he ((rowRect s).emb x)).trans (hX s (.inr rfl) x)⟩, h.2⟩) (run_all m ρ)

end Cert.Ex

end
-- ==== Proof.Value.lean ====
/-
The contents of the result at the extended reals: each row block is the reference's at its place.
-/
module

public import proofs.«01_k».proof.Proof.Result
public import proofs.«01_k».proof.Proof.Gen.ReferenceIdeal.Run
public import Idealize.ShloMosaic.Lib.MatmulPlain
public import Idealize.ShloMosaic.Lib.Layout
public import Idealize.ShloMosaic.Lib.Pipeline.ValueKit.Geometry

@[expose] public section

noncomputable section

namespace Cert.Ex

open Cert.KernelIdeal Cert.KernelIdeal.Gen

open Idealize.ShloMosaic
open Idealize.ShloMosaic.TcCoe
open Idealize.ShloMosaic.ValueIdx
open Idealize.SL.Sem

/-- The activation at one extended real, as the reference spells it. -/
def act (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The kernel multiplies the cube's coefficient in first. -/
theorem act_eq (y : EReal) : act y = Ideal.ofBits .f32 0x3F000000#32 * y
    * (Ideal.ofBits .f32 0x3F800000#32
      + Ideal.tanh (Ideal.ofBits .f32 0x3F4C422A#32 * (y + Ideal.ofBits .f32 0x3D372713#32 * y * y * y))) := by
  rw [act, mul_assoc (Ideal.ofBits .f32 0x3D372713#32 * y) y y, mul_assoc (Ideal.ofBits .f32 0x3D372713#32) y (y * y), mul_assoc y y y]

/-- A row block the kernel computes, at an index: the activation of the row's product with the column. -/
theorem pay1_apply (x : FVec Ideal S256x4096 .bf16) (w : FVec Ideal S4096x512 .bf16) (r : Fin 256) (n : Fin 512) :
    k0_pay1 (F := Ideal) x w (ix2 r n) = act (∑ k : Fin 4096, x (ix2 r k) * w (ix2 k n)) := by
  have e : matmul (F := Ideal) dot_S256x4096_S4096x512_S256x512_1_0_0_1_n_n none x w (constant S256x512 .f32 0x00000000#32) (ix2 r n)
      = ∑ k : Fin 4096, x (ix2 r k) * w (ix2 k n) := by
    refine (Ideal.matmul_plain_apply (M := 256) (K := 4096) (N := 512) none x w _ r n).trans ?_
    show Ideal.ofBits .f32 0x00000000#32 + _ = _
    rw [Ideal.ofBits_zero_f32, zero_add]
  rw [act_eq, ← e]
  unfold k0_pay1
  simp only [shapeCast_self]
  rfl

/-- The reference at an index. -/
theorem ref_apply (x : FVec Ideal Cert.ReferenceIdeal.S4096x4096 .bf16) (w : FVec Ideal Cert.ReferenceIdeal.S4096x8192 .bf16) (r : Fin 4096) (n : Fin 8192) :
    Host.dotGeneral (F := Ideal) Cert.ReferenceIdeal.dot_S4096x4096_S4096x8192_S4096x8192_1_0_0_1_n_n none x w (ix2 r n)
      = ∑ k : Fin 4096, x (ix2 r k) * w (ix2 k n) :=
  (Ideal.matmul_plain_apply (M := 4096) (K := 4096) (N := 8192) none x w (fun _ => 0) r n).trans (zero_add _)

variable (m : (ℓ : Loc nD τ sig) → Buf (Elt Ideal) ℓ)

/-- The device's rows are its whole first argument, -/
theorem xb_apply (c : Dev nD) (i : S256x4096.Idx) : xb m c i = m ((c : Thread nD τ).loc main_arg0) i := by
  unfold xb iblk
  show m ((c : Thread nD τ).loc main_arg0) _ = _
  refine congrArg (m ((c : Thread nD τ).loc main_arg0)) ?_
  funext a; apply Fin.ext
  have e : ∀ t : Fin cfg0.N, win0_0.index t = ![0, 0] := (by decide +kernel : ∀ t : Fin grid0.N, _)
  blk_simp [e]
  match a with
  | ⟨0, _⟩ => show 0 * 256 + _ = _; rw [Nat.zero_mul, Nat.zero_add]
  | ⟨1, _⟩ => show 0 * 4096 + _ = _; rw [Nat.zero_mul, Nat.zero_add]

/-- and a block of columns is the second's, `512` further along for each block. -/
theorem wb_apply (c j : Dev nD) (i : S4096x512.Idx) (i' : S4096x8192.Idx) (h0 : (i' 0).val = (i 0).val) (h1 : (i' 1).val = 512 * j.val + (i 1).val) :
    wb m c j i = m ((c : Thread nD τ).loc main_arg1) i' := by
  unfold wb iblk
  show m ((c : Thread nD τ).loc main_arg1) _ = _
  refine congrArg (m ((c : Thread nD τ).loc main_arg1)) ?_
  funext a; apply Fin.ext
  have e : ∀ t : Fin cfg0.N, win0_1.index t = ![0, t.val] := (by decide +kernel : ∀ t : Fin grid0.N, _)
  blk_simp [e]
  match a with
  | ⟨0, _⟩ => exact (show 0 * 4096 + (i 0).val = (i' 0).val by rw [h0, Nat.zero_mul, Nat.zero_add])
  | ⟨1, _⟩ => exact (show j.val * 512 + (i 1).val = (i' 1).val by rw [h1, Nat.mul_comm])

/-- Every row block of the result is the sender's own activations: the rounding is exact at the extended reals. -/
theorem outBlk_eq (c s : Dev nD) : outBlk m c s = k0_pay1 (xb m s) (wb m s c) := by
  unfold outBlk
  split
  · next h => rw [h]
  · funext x
    show sent m c s x = _
    unfold sent k0_pay2
    simp only [shapeCast]
    rw [Shape.reshapeEquiv_reshapeEquiv, Shape.reshapeEquiv_self]
    rfl

/-- A result whose sixteen row blocks are right is the device's columns of any array that holds, at each row and
    column, the activation of the whole arguments' product. -/
theorem result_eq (c : Dev nD) (X : Vec Ideal S4096x512 .f32) (hX : ∀ s, RowOK m c s X)
    (x : (⟨2, ![4096, 4096]⟩ : Shape).Idx → EReal) (w : (⟨2, ![4096, 8192]⟩ : Shape).Idx → EReal) (v : (⟨2, ![4096, 8192]⟩ : Shape).Idx → EReal)
    (hx : ∀ s : Dev nD, m ((s : Thread nD τ).loc main_arg0) = Layout.block ⟨2, ![256, 4096]⟩ ⟨2, ![4096, 4096]⟩ 0 16 s x)
    (hw : ∀ s : Dev nD, m ((s : Thread nD τ).loc main_arg1) = w)
    (hv : ∀ r n, v (ix2 r n) = act (∑ k : Fin 4096, x (ix2 r k) * w (ix2 k n))) :
    X = Layout.block ⟨2, ![4096, 512]⟩ ⟨2, ![4096, 8192]⟩ 1 16 c v := by
  funext j
  obtain ⟨r, n, rfl⟩ : ∃ (r : Fin 4096) (n : Fin 512), j = ix2 r n := ⟨j 0, j 1, eq_ix2 j⟩
  have hc : c.val < 16 := c.isLt
  have hr : r.val < 4096 := r.isLt
  have hn : n.val < 512 := n.isLt
  let s : Dev nD := ⟨r.val / 256, show r.val / 256 < 16 by omega⟩
  let r' : Fin 256 := ⟨r.val % 256, by omega⟩
  let n' : Fin 8192 := ⟨512 * c.val + n.val, by omega⟩
  have hj : (rowRect s).emb (ix2 r' n) = (ix2 r n : S4096x512.Idx) := by
    funext a; apply Fin.ext
    rw [ValueKit.rect_emb_unit_val]
    match a with
    | ⟨0, _⟩ => exact (show 256 * (r.val / 256) + r.val % 256 = r.val by omega)
    | ⟨1, _⟩ => exact (show 0 + n.val = n.val by omega)
  have hi : Layout.Tiles.idx (S := ⟨2, ![4096, 512]⟩) (T := ⟨2, ![4096, 8192]⟩) (a := 1) (k := 16) (by decide) c (ix2 r n) = ix2 r n' := by
    funext a; apply Fin.ext
    match a with
    | ⟨0, _⟩ => rfl
    | ⟨1, _⟩ => exact (show c.val * 512 + n.val = 512 * c.val + n.val by omega)
  rw [Layout.block_apply, hi, hv, ← hj]
  refine (hX s (ix2 r' n)).trans ?_
  rw [outBlk_eq, pay1_apply]
  refine congrArg act (Finset.sum_congr rfl fun k _ => congrArg₂ (· * ·) ?_ ?_)
  · rw [xb_apply, hx s, Layout.block_apply]
    refine congrArg x ?_
    funext a; apply Fin.ext
    match a with
    | ⟨0, _⟩ => exact (show r.val / 256 * 256 + r.val % 256 = r.val by omega)
    | ⟨1, _⟩ => rfl
  · rw [wb_apply m s c (ix2 k n) (ix2 k n') rfl rfl, hw s]

end Cert.Ex

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed kernel's body table is the one the run is proved of, -/
theorem bodies_eq : Cert.Kernel.defs₀ (F := Bits) = Cert.KernelIdeal.defs₀ (F := Bits) := by
  refine congrArg (Defs.onTc (nD := Cert.KernelIdeal.nD)) (funext fun l => funext fun x => ?_)
  match l, x with
  | 0, (t, s) => rfl

theorem defs_eq : Cert.Kernel.defs (F := Bits) = Cert.KernelIdeal.defs (F := Bits) :=
  congrArg (Pipeline.defs Cert.KernelIdeal.pcfgs) bodies_eq

/-- so the printed kernel runs to the end, leaves its arguments and every counter as launched; -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (Cert.Ex.run_main (F := Bits) m ρ)

/-- so does its text read at the extended reals; -/
theorem frame_ideal : Cert.quiescent_KernelIdeal := fun m ρ _ =>
  (θ_run Cert.KernelIdeal.defs _ _).mono (fun _ h => ⟨fun c => ⟨(h.1 c).1, (h.1 c).2.1⟩, h.2⟩) (Cert.Ex.run_main (F := Ideal) m ρ)

/-- and the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends holding its columns of the reference's result. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨?_, (h.1 c).1, (h.1 c).2.1⟩) (Cert.Ex.run_main (F := Ideal) m ρ)
  exact Cert.Ex.result_eq m c _ (h.1 c).2.2 _ _ _ (fun s => (hagree s).1) (fun s => (hagree s).2)
    fun r n => congrArg Cert.Ex.act (Cert.Ex.ref_apply _ _ r n)

theorem claim : Cert.Claim := ⟨Cert.Kernel.Gen.facts, Cert.KernelIdeal.Gen.facts, Cert.ReferenceIdeal.Gen.facts,
  frame_kernel, frame_ideal, frame_reference, trivial, algebraic⟩

end Cert.Proof

end
